-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x7168 : Shape := ⟨3, ![1, 384, 7168]⟩
abbrev S1 : Shape := ⟨1, ![1]⟩
abbrev S7168x3584 : Shape := ⟨2, ![7168, 3584]⟩
abbrev S3584 : Shape := ⟨1, ![3584]⟩
abbrev S1x1 : Shape := ⟨2, ![1, 1]⟩
abbrev S384x7168 : Shape := ⟨2, ![384, 7168]⟩
abbrev S1x3584 : Shape := ⟨2, ![1, 3584]⟩
abbrev S384x3584 : Shape := ⟨2, ![384, 3584]⟩
abbrev S7168x512 : Shape := ⟨2, ![7168, 512]⟩
abbrev S1x512 : Shape := ⟨2, ![1, 512]⟩
abbrev S384x512 : Shape := ⟨2, ![384, 512]⟩
abbrev S1x256 : Shape := ⟨2, ![1, 256]⟩
abbrev S1x384x3584 : Shape := ⟨3, ![1, 384, 3584]⟩

abbrev nBuf : Space → Nat
  | .hbm => 13
  | .vmem => 10
  | .smem => 0
  | _ => 0

abbrev bufTy : (tb : Table) → Fin (tcTables nBuf tb) → BufTy
  | .hbm, ⟨0, _⟩ => ⟨S1x384x7168, .bf16⟩
  | .hbm, ⟨1, _⟩ => ⟨S1, .f32⟩
  | .hbm, ⟨2, _⟩ => ⟨S7168x3584, .fp8e4m3⟩
  | .hbm, ⟨3, _⟩ => ⟨S3584, .f32⟩
  | .hbm, ⟨4, _⟩ => ⟨S1x1, .f32⟩
  | .hbm, ⟨5, _⟩ => ⟨S384x7168, .bf16⟩
  | .hbm, ⟨6, _⟩ => ⟨S1x3584, .f32⟩
  | .hbm, ⟨7, _⟩ => ⟨S384x3584, .bf16⟩
  | .hbm, ⟨8, _⟩ => ⟨S384x7168, .fp8e4m3⟩
  | .hbm, ⟨9, _⟩ => ⟨S1x1, .f32⟩
  | .hbm, ⟨10, _⟩ => ⟨S1x384x3584, .bf16⟩
  | .hbm, ⟨11, _⟩ => ⟨S1x384x7168, .fp8e4m3⟩
  | .hbm, ⟨12, _⟩ => ⟨S1, .f32⟩
  | .local _ .vmem, ⟨0, _⟩ => ⟨S1x1, .f32⟩
  | .local _ .vmem, ⟨1, _⟩ => ⟨S384x7168, .bf16⟩
  | .local _ .vmem, ⟨2, _⟩ => ⟨S7168x512, .fp8e4m3⟩
  | .local _ .vmem, ⟨3, _⟩ => ⟨S7168x512, .fp8e4m3⟩
  | .local _ .vmem, ⟨4, _⟩ => ⟨S1x512, .f32⟩
  | .local _ .vmem, ⟨5, _⟩ => ⟨S1x512, .f32⟩
  | .local _ .vmem, ⟨6, _⟩ => ⟨S384x512, .bf16⟩
  | .local _ .vmem, ⟨7, _⟩ => ⟨S384x512, .bf16⟩
  | .local _ .vmem, ⟨8, _⟩ => ⟨S384x7168, .fp8e4m3⟩
  | .local _ .vmem, ⟨9, _⟩ => ⟨S1x1, .f32⟩
  | _, _ => ⟨S1x384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x384x7168 : Shape := ⟨3, ![1, 384, 7168]⟩
abbrev S1 : Shape := ⟨1, ![1]⟩
abbrev S7168x3584 : Shape := ⟨2, ![7168, 3584]⟩
abbrev S3584 : Shape := ⟨1, ![3584]⟩
abbrev S1x384x3584 : Shape := ⟨3, ![1, 384, 3584]⟩
abbrev S1x1x3584 : Shape := ⟨3, ![1, 1, 3584]⟩

abbrev nBuf : Space → Nat
  | .hbm => 7
  | .vmem => 7
  | .smem => 0
  | _ => 0

abbrev bufTy : (tb : Table) → Fin (tcTables nBuf tb) → BufTy
  | .hbm, ⟨0, _⟩ => ⟨S1x384x7168, .bf16⟩
  | .hbm, ⟨1, _⟩ => ⟨S1, .f32⟩
  | .hbm, ⟨2, _⟩ => ⟨S7168x3584, .fp8e4m3⟩
  | .hbm, ⟨3, _⟩ => ⟨S3584, .f32⟩
  | .hbm, ⟨4, _⟩ => ⟨S1x384x3584, .bf16⟩
  | .hbm, ⟨5, _⟩ => ⟨S1x384x7168, .fp8e4m3⟩
  | .hbm, ⟨6, _⟩ => ⟨S1, .f32⟩
  | .local _ .vmem, ⟨0, _⟩ => ⟨S1x384x7168, .bf16⟩
  | .local _ .vmem, ⟨1, _⟩ => ⟨S1, .f32⟩
  | .local _ .vmem, ⟨2, _⟩ => ⟨S7168x3584, .fp8e4m3⟩
  | .local _ .vmem, ⟨3, _⟩ => ⟨S3584, .f32⟩
  | .local _ .vmem, ⟨4, _⟩ => ⟨S1x384x3584, .bf16⟩
  | .local _ .vmem, ⟨5, _⟩ => ⟨S1x384x7168, .fp8e4m3⟩
  | .local _ .vmem, ⟨6, _⟩ => ⟨S1, .f32⟩
  | _, _ => ⟨S1x384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x384x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.PrintedRun.lean ====
/- `KernelRun.lean` for the other of the two kernel programs, the kernel as printed for float arithmetic: the same statements and proofs,
   in that program's own names. Its frame claim rests on it. -/
module

public import proofs.«01_k».proof.Proof.Gen.Kernel.Frame
public import proofs.«01_k».proof.Proof.Gen.Kernel.Skeleton
public import Idealize.ShloMosaic.Lib.Pipeline.Value

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one condition -/

/-- The condition under which the body computes the codes: the grid coordinate is zero. -/
abbrev isFirst (i : grid0.Coords) : Prop := k0_cond1 i = 1#1

/-- It holds at the first of the seven points only. -/
theorem isFirst_iff : ∀ t : Fin cfg0.N, isFirst (grid0.coords t) ↔ t.val = 0 :=
  (fun t => by
    have ht : t.val < 7 := Nat.lt_of_lt_of_eq t.isLt N_0
    have e0 : (grid0.coords t 0).val = t.val / 1 % 7 := Pipeline.Grid.coords_val t 0 (by decide) rfl
    have hm : t.val = 0 ↔ t.val % 7 = 0 := by omega
    rw [hm]
    simp only [isFirst, k0_cond1, e0]
    word_cmp
   : ∀ t : Fin grid0.N, isFirst (grid0.coords t) ↔ t.val = 0)

/-! ## Whole loads and whole stores -/

/-- A whole load of a whole buffer reads its contents. -/
theorem whole_load {S : Shape} {e : EltTy} {sp : Space} {a : Memref sig .tc sp S e} (ha : a.IsWhole) {off : Fin S.rank → Nat} (h : off = fun _ => 0)
    (inb : ∀ k, off k + S.size k ≤ S.size k) (x : Vec F S e) :
    View.readAt (Elt F) a.view (Rect.unit off S.size inb).toLoadRect (ha.unread x) = x := by
  rw [View.readAt_eq_ld, ha.read_unread, View.ld_unit_zero h]

/-- One whole store leaves its payload, whatever the buffer held. -/
theorem whole_store {S : Shape} {e : EltTy} {sp : Space} (v : View sig .tc sp S e) (f : v.ty.Contents (Elt F)) {off : Fin S.rank → Nat}
    (h : off = fun _ => 0) (inb : ∀ k, off k + S.size k ≤ S.size k) (x : Vec F S e) :
    View.read (Elt F) v (v.writes (Elt F) f [⟨Rect.unit off S.size inb, x⟩]) = x := by
  rw [View.read_writes_eq_canon v f _ (fun y => ⟨_, List.mem_singleton_self _, by
    subst h; show y ∈ (Rect.whole S).set; rw [Rect.set_whole]; exact Finset.mem_univ _⟩), View.canon_unit_zero h]

theorem zz : (![0, 0] : Fin 2 → Nat) = fun _ => 0 := funext fun a => by fin_cases a <;> rfl

set_option maxHeartbeats 1000000 in
/-- THE BODY AT THE FIRST POINT: from the inputs' buffers at `x0 … x3` and the outputs' at anything, it ends with the scale kept, the
    codes `k0_pay3 x0 x1` in the second output's buffer, and the block of `y` computed from them. -/
theorem run_first (c : Dev nD) (i : grid0.Coords) (arg1 : Memref sig .tc .vmem S1x1 .f32) (harg1 : arg1.IsWhole) (arg2 : Memref sig .tc .vmem S384x7168 .bf16) (harg2 : arg2.IsWhole) (arg3 : Memref sig .tc .vmem S7168x512 .fp8e4m3) (harg3 : arg3.IsWhole) (arg4 : Memref sig .tc .vmem S1x512 .f32) (harg4 : arg4.IsWhole) (arg5 : Memref sig .tc .vmem S384x512 .bf16) (harg5 : arg5.IsWhole) (arg6 : Memref sig .tc .vmem S384x7168 .fp8e4m3) (harg6 : arg6.IsWhole) (arg7 : Memref sig .tc .vmem S1x1 .f32) (harg7 : arg7.IsWhole) (hc0 : isFirst i)
    (x0 : Vec F S1x1 .f32) (x1 : Vec F S384x7168 .bf16) (x2 : Vec F S7168x512 .fp8e4m3) (x3 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 x0 (k0_pay3 (k0_pay1 x0) x1) x2 x3) ∗ owns (c : Thread nD τ) arg6 fullShare (k0_pay3 (k0_pay1 x0) x1) ∗ owns (c : Thread nD τ) arg7 fullShare (k0_pay1 x0)) -∗ K ⟨⟩))
          ⊢ wp frame (wpE (defs₀ (F := F)) Variants.none c none) E (cc0__linear_kernel i arg1 harg1 arg2 harg2 arg3 harg3 arg4 harg4 arg5 harg5 arg6 harg6 arg7 harg7) K := by
    intro E K
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [whole_store _ _ zz]
      unfold run_first.sl.v5 run_first.sl.H5_1
      rw [View.readCov_unit_zero _ zz, whole_load harg1 zz, whole_load harg2 zz, whole_load harg3 zz, whole_load harg4 zz]
    isplitl [H5]
    · iexists _; isplitr; swap; · iexact H5
      ipureintro
      unfold run_first.sl.H5_1
      rw [whole_store _ _ zz, whole_load harg1 zz, whole_load harg2 zz]
    iexists _; isplitr; swap; · iexact H6
    ipureintro
    rw [whole_store _ _ zz, whole_load harg1 zz]

set_option maxHeartbeats 1000000 in
/-- THE BODY AT A LATER POINT: from the inputs' buffers at `x0 … x3`, the codes' buffer at `x5` and the scale's at `x6`, it ends with
    the last two as they were and the block of `y` computed from the codes `x5`. -/
theorem run_later (c : Dev nD) (i : grid0.Coords) (arg1 : Memref sig .tc .vmem S1x1 .f32) (harg1 : arg1.IsWhole) (arg2 : Memref sig .tc .vmem S384x7168 .bf16) (harg2 : arg2.IsWhole) (arg3 : Memref sig .tc .vmem S7168x512 .fp8e4m3) (harg3 : arg3.IsWhole) (arg4 : Memref sig .tc .vmem S1x512 .f32) (harg4 : arg4.IsWhole) (arg5 : Memref sig .tc .vmem S384x512 .bf16) (harg5 : arg5.IsWhole) (arg6 : Memref sig .tc .vmem S384x7168 .fp8e4m3) (harg6 : arg6.IsWhole) (arg7 : Memref sig .tc .vmem S1x1 .f32) (harg7 : arg7.IsWhole) (hc0 : ¬ isFirst i)
    (x0 : Vec F S1x1 .f32) (x1 : Vec F S384x7168 .bf16) (x2 : Vec F S7168x512 .fp8e4m3) (x3 : Vec F S1x512 .f32) (x5 : Vec F S384x7168 .fp8e4m3) (x6 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 x0 x5 x2 x3) ∗ owns (c : Thread nD τ) arg6 fullShare x5 ∗ owns (c : Thread nD τ) arg7 fullShare x6) -∗ K ⟨⟩))
          ⊢ wp frame (wpE (defs₀ (F := F)) Variants.none c none) E (cc0__linear_kernel i arg1 harg1 arg2 harg2 arg3 harg3 arg4 harg4 arg5 harg5 arg6 harg6 arg7 harg7) K := by
    intro E K
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [whole_store _ _ zz, whole_load harg1 zz, whole_load harg6 zz, whole_load harg3 zz, whole_load harg4 zz]
    isplitl [H5]
    · iexists _; isplitr; · ipureintro; exact harg6.read_unread _
      iexact H5
    iexists _; isplitr; · ipureintro; exact harg7.read_unread _
    iexact H6

end Cert.Kernel.Run

end
-- ==== Proof.PrintedFrame.lean ====
/- `KernelFrame.lean` for the other of the two kernel programs, the kernel as printed for float arithmetic: the same statements and proofs,
   in that program's own names. Its frame claim rests on it. -/
module

public import proofs.«01_k».proof.Proof.PrintedRun
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first grid point. -/
abbrev t0 : Fin cfg0.N := ⟨0, Nat.lt_of_lt_of_eq (by decide) N_0.symm⟩

/-- The scale as the first point reads it. -/
def scale (c : Dev nD) : Vec F S1x1 .f32 := k0_pay1 (iblk m c 0 t0)

/-- The codes as the first point computes them. -/
def codes (c : Dev nD) : Vec F S384x7168 .fp8e4m3 := k0_pay3 (k0_pay1 (iblk m c 0 t0)) (iblk m c 1 t0)

/-- The block of `y` that point `t` computes: the codes against the point's block of weights. -/
def yblock (c : Dev nD) (t : Fin cfg0.N) : Vec F S384x512 .bf16 := k0_pay2 (iblk m c 0 t) (codes m c) (iblk m c 2 t) (iblk m c 3 t)

/-- The proof data of the one pipeline on core `c`: after the body at point `t` each input's buffer holds its block, the first output's
    the point's block of `y`, the second's the codes, the third's the scale. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yblock m c t
    | ⟨5, _⟩ => codes m c
    | ⟨6, _⟩ => scale m c
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yblock m c t := by dsimp only [dats]
theorem after0_5 (c : Dev nD) (t : Fin cfg0.N) : (dats m 0 c).after 5 t = codes m c := by dsimp only [dats]
theorem after0_6 (c : Dev nD) (t : Fin cfg0.N) : (dats m 0 c).after 6 t = scale m c := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The two outputs stored once -/

/-- The second and third outputs are idle (not stored into) exactly at the points after the first. -/
theorem idle5 (t : Fin cfg0.N) : cfg0.idle 5 (grid0.coords t) = true ↔ t.val ≠ 0 := by
  show (!(k0_cond1 (grid0.coords t) == 1#1)) = true ↔ _
  rw [Bool.not_eq_true', beq_eq_false_iff_ne]
  exact not_congr (isFirst_iff t)
theorem idle6 (t : Fin cfg0.N) : cfg0.idle 6 (grid0.coords t) = true ↔ t.val ≠ 0 := idle5 t

/-- At every point after the first, the body finds the codes in the second output's buffer. -/
theorem found_codes (c : Dev nD) : ∀ (n : ℕ) (h : n + 1 < cfg0.N) (d), (dats m 0 c).before 5 ⟨n + 1, h⟩ d = codes m c := by
  intro n
  induction n with
  | zero =>
    intro h d
    rw [(dats m 0 c).before_of_pos 5 _ (Nat.succ_ne_zero _) ((cfg0.win 5).fetch_out rfl _)]
    have hf : (cfg0.win 5).flush t0 = false := by
      rw [← Bool.not_eq_true, flush0_5]; decide
    have hi : cfg0.idle 5 (grid0.coords t0) = false := by
      rw [← Bool.not_eq_true, idle5]; decide
    rw [if_neg (by show ¬ (cfg0.win 5).flush t0 = true; rw [hf]; decide)]
    show (dats m 0 c).left 5 t0 d = _
    unfold Dat.left
    rw [show cfg0.idle 5 (cfg0.grid.coords t0) = false from hi]
    show (dats m 0 c).kept 5 t0 d = _
    unfold Dat.kept
    rw [Pipeline.fill_of_clip_none 5 _ (fun _ => rfl) d ((dats m 0 c).after 5 _), Pipeline.Window.fill_cut, after0_5]
  | succ n ih =>
    intro h d
    have hN : n + 1 + 1 < 7 := Nat.lt_of_lt_of_eq h N_0
    rw [(dats m 0 c).before_of_pos 5 _ (Nat.succ_ne_zero _) ((cfg0.win 5).fetch_out rfl _)]
    have hf : ¬ (cfg0.win 5).flush (⟨n + 1, Nat.lt_of_succ_lt h⟩ : Fin cfg0.N) = true := by
      rw [flush0_5]; show ¬ (n + 1) % 7 = 6; omega
    have hi : cfg0.idle 5 (grid0.coords (⟨n + 1, Nat.lt_of_succ_lt h⟩ : Fin cfg0.N)) = true := by
      rw [idle5]; exact Nat.succ_ne_zero n
    rw [if_neg (by exact hf)]
    show (dats m 0 c).left 5 (⟨n + 1, Nat.lt_of_succ_lt h⟩ : Fin cfg0.N) d = _
    unfold Dat.left
    rw [show cfg0.idle 5 (cfg0.grid.coords (⟨n + 1, Nat.lt_of_succ_lt h⟩ : Fin cfg0.N)) = true from hi]
    exact ih (Nat.lt_of_succ_lt h) d

/-- At every point after the first, the body finds the scale in the third output's buffer. -/
theorem found_scale (c : Dev nD) : ∀ (n : ℕ) (h : n + 1 < cfg0.N) (d), (dats m 0 c).before 6 ⟨n + 1, h⟩ d = scale m c := by
  intro n
  induction n with
  | zero =>
    intro h d
    rw [(dats m 0 c).before_of_pos 6 _ (Nat.succ_ne_zero _) ((cfg0.win 6).fetch_out rfl _)]
    have hf : (cfg0.win 6).flush t0 = false := by
      rw [← Bool.not_eq_true, flush0_6]; decide
    have hi : cfg0.idle 6 (grid0.coords t0) = false := by
      rw [← Bool.not_eq_true, idle6]; decide
    rw [if_neg (by show ¬ (cfg0.win 6).flush t0 = true; rw [hf]; decide)]
    show (dats m 0 c).left 6 t0 d = _
    unfold Dat.left
    rw [show cfg0.idle 6 (cfg0.grid.coords t0) = false from hi]
    show (dats m 0 c).kept 6 t0 d = _
    unfold Dat.kept
    rw [Pipeline.fill_of_clip_none 6 _ (fun _ => rfl) d ((dats m 0 c).after 6 _), Pipeline.Window.fill_cut, after0_6]
  | succ n ih =>
    intro h d
    have hN : n + 1 + 1 < 7 := Nat.lt_of_lt_of_eq h N_0
    rw [(dats m 0 c).before_of_pos 6 _ (Nat.succ_ne_zero _) ((cfg0.win 6).fetch_out rfl _)]
    have hf : ¬ (cfg0.win 6).flush (⟨n + 1, Nat.lt_of_succ_lt h⟩ : Fin cfg0.N) = true := by
      rw [flush0_6]; show ¬ (n + 1) % 7 = 6; omega
    have hi : cfg0.idle 6 (grid0.coords (⟨n + 1, Nat.lt_of_succ_lt h⟩ : Fin cfg0.N)) = true := by
      rw [idle6]; exact Nat.succ_ne_zero n
    rw [if_neg (by exact hf)]
    show (dats m 0 c).left 6 (⟨n + 1, Nat.lt_of_succ_lt h⟩ : Fin cfg0.N) d = _
    unfold Dat.left
    rw [show cfg0.idle 6 (cfg0.grid.coords (⟨n + 1, Nat.lt_of_succ_lt h⟩ : Fin cfg0.N)) = true from hi]
    exact ih (Nat.lt_of_succ_lt h) d

/-- The same, at a point given with its proof of not being the first. -/
theorem before0_5 (c : Dev nD) (t : Fin cfg0.N) (h : t.val ≠ 0) (d) : (dats m 0 c).before 5 t d = codes m c := by
  obtain ⟨n, hn⟩ := t
  cases n with
  | zero => exact absurd rfl h
  | succ n => exact found_codes m c n hn d
theorem before0_6 (c : Dev nD) (t : Fin cfg0.N) (h : t.val ≠ 0) (d) : (dats m 0 c).before 6 t d = scale m c := by
  obtain ⟨n, hn⟩ := t
  cases n with
  | zero => exact absurd rfl h
  | succ n => exact found_scale m c n hn d

/-- The codes' buffer is handed back at the codes wherever the point is: where the body stores it, where it is written back, and where it
    is only kept. -/
theorem leaves5 (c : Dev nD) (t : Fin cfg0.N) :
    owns (c : Thread nD τ) (st0_5 t) fullShare (codes m c) ⊢ (dats m 0 c).leavesExact 5 t := by
  by_cases h0 : t.val = 0
  · have hi : cfg0.idle 5 (cfg0.grid.coords t) = false := by rw [← Bool.not_eq_true]; exact fun h => (idle5 t).mp h h0
    unfold Dat.leavesExact; rw [hi]; dsimp only; rw [after0_5]
  · have hi : cfg0.idle 5 (cfg0.grid.coords t) = true := (idle5 t).mpr h0
    cases hf : (cfg0.win 5).flush t
    · rw [(dats m 0 c).leavesExact_idle 5 t hi hf]
      iintro H; iexists codes m c; rw [before0_5 m c t h0]; iexact H
    · unfold Dat.leavesExact; rw [hi, hf]; dsimp only; rw [after0_5]
/-- The same of the scale's buffer. -/
theorem leaves6 (c : Dev nD) (t : Fin cfg0.N) :
    owns (c : Thread nD τ) (st0_6 t) fullShare (scale m c) ⊢ (dats m 0 c).leavesExact 6 t := by
  by_cases h0 : t.val = 0
  · have hi : cfg0.idle 6 (cfg0.grid.coords t) = false := by rw [← Bool.not_eq_true]; exact fun h => (idle6 t).mp h h0
    unfold Dat.leavesExact; rw [hi]; dsimp only; rw [after0_6]
  · have hi : cfg0.idle 6 (cfg0.grid.coords t) = true := (idle6 t).mpr h0
    cases hf : (cfg0.win 6).flush t
    · rw [(dats m 0 c).leavesExact_idle 6 t hi hf]
      iintro H; iexists scale m c; rw [before0_6 m c t h0]; iexact H
    · unfold Dat.leavesExact; rw [hi, hf]; dsimp only; rw [after0_6]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

set_option maxHeartbeats 800000 in
/-- The body at any point: at the first `run_first` applies, at every other `run_later`, the codes and the scale found as the first
    point left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val = 0
  · obtain rfl : t = t0 := Fin.ext h0
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_first c (grid0.coords t0) _ _ _ _ _ _ _ _ _ _ _ _ _ _ ((isFirst_iff t0).mpr h0) (iblk m c 0 t0) (iblk m c 1 t0) (iblk m c 2 t0) (iblk m c 3 t0)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t0); iexact H5
    iapply (leaves6 m c t0); iexact H6
  · simp only [before0_5 m c t h0, before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_later c (grid0.coords t) _ _ _ _ _ _ _ _ _ _ _ _ _ _ (fun h => h0 ((isFirst_iff t).mp h)) (iblk m c 0 t) (iblk m c 1 t) (iblk m c 2 t) (iblk m c 3 t) (codes m c) (scale m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t); iexact H5
    iapply (leaves6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program ends, with the pipeline's arrays at what the proof data says, every later host line run on them, and
    every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- THE FRAME of the kernel: every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.KernelRun.lean ====
/- What one call of the kernel body does, its outputs named: at the first grid point (`run_first`) it computes the codes, keeps
   them and the scale in their buffers, and leaves the first block of `y`; at every other point (`run_later`) it reads the codes
   that the first point left, and leaves its own block of `y`. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one condition -/

/-- The condition under which the body computes the codes: the grid coordinate is zero. -/
abbrev isFirst (i : grid0.Coords) : Prop := k0_cond1 i = 1#1

/-- It holds at the first of the seven points only. -/
theorem isFirst_iff : ∀ t : Fin cfg0.N, isFirst (grid0.coords t) ↔ t.val = 0 :=
  (fun t => by
    have ht : t.val < 7 := Nat.lt_of_lt_of_eq t.isLt N_0
    have e0 : (grid0.coords t 0).val = t.val / 1 % 7 := Pipeline.Grid.coords_val t 0 (by decide) rfl
    have hm : t.val = 0 ↔ t.val % 7 = 0 := by omega
    rw [hm]
    simp only [isFirst, k0_cond1, e0]
    word_cmp
   : ∀ t : Fin grid0.N, isFirst (grid0.coords t) ↔ t.val = 0)

/-! ## Whole loads and whole stores -/

/-- A whole load of a whole buffer reads its contents. -/
theorem whole_load {S : Shape} {e : EltTy} {sp : Space} {a : Memref sig .tc sp S e} (ha : a.IsWhole) {off : Fin S.rank → Nat} (h : off = fun _ => 0)
    (inb : ∀ k, off k + S.size k ≤ S.size k) (x : Vec F S e) :
    View.readAt (Elt F) a.view (Rect.unit off S.size inb).toLoadRect (ha.unread x) = x := by
  rw [View.readAt_eq_ld, ha.read_unread, View.ld_unit_zero h]

/-- One whole store leaves its payload, whatever the buffer held. -/
theorem whole_store {S : Shape} {e : EltTy} {sp : Space} (v : View sig .tc sp S e) (f : v.ty.Contents (Elt F)) {off : Fin S.rank → Nat}
    (h : off = fun _ => 0) (inb : ∀ k, off k + S.size k ≤ S.size k) (x : Vec F S e) :
    View.read (Elt F) v (v.writes (Elt F) f [⟨Rect.unit off S.size inb, x⟩]) = x := by
  rw [View.read_writes_eq_canon v f _ (fun y => ⟨_, List.mem_singleton_self _, by
    subst h; show y ∈ (Rect.whole S).set; rw [Rect.set_whole]; exact Finset.mem_univ _⟩), View.canon_unit_zero h]

theorem zz : (![0, 0] : Fin 2 → Nat) = fun _ => 0 := funext fun a => by fin_cases a <;> rfl

set_option maxHeartbeats 1000000 in
/-- THE BODY AT THE FIRST POINT: from the inputs' buffers at `x0 … x3` and the outputs' at anything, it ends with the scale kept, the
    codes `k0_pay3 x0 x1` in the second output's buffer, and the block of `y` computed from them. -/
theorem run_first (c : Dev nD) (i : grid0.Coords) (arg1 : Memref sig .tc .vmem S1x1 .f32) (harg1 : arg1.IsWhole) (arg2 : Memref sig .tc .vmem S384x7168 .bf16) (harg2 : arg2.IsWhole) (arg3 : Memref sig .tc .vmem S7168x512 .fp8e4m3) (harg3 : arg3.IsWhole) (arg4 : Memref sig .tc .vmem S1x512 .f32) (harg4 : arg4.IsWhole) (arg5 : Memref sig .tc .vmem S384x512 .bf16) (harg5 : arg5.IsWhole) (arg6 : Memref sig .tc .vmem S384x7168 .fp8e4m3) (harg6 : arg6.IsWhole) (arg7 : Memref sig .tc .vmem S1x1 .f32) (harg7 : arg7.IsWhole) (hc0 : isFirst i)
    (x0 : Vec F S1x1 .f32) (x1 : Vec F S384x7168 .bf16) (x2 : Vec F S7168x512 .fp8e4m3) (x3 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 x0 (k0_pay3 (k0_pay1 x0) x1) x2 x3) ∗ owns (c : Thread nD τ) arg6 fullShare (k0_pay3 (k0_pay1 x0) x1) ∗ owns (c : Thread nD τ) arg7 fullShare (k0_pay1 x0)) -∗ K ⟨⟩))
          ⊢ wp frame (wpE (defs₀ (F := F)) Variants.none c none) E (cc0__linear_kernel i arg1 harg1 arg2 harg2 arg3 harg3 arg4 harg4 arg5 harg5 arg6 harg6 arg7 harg7) K := by
    intro E K
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [whole_store _ _ zz]
      unfold run_first.sl.v5 run_first.sl.H5_1
      rw [View.readCov_unit_zero _ zz, whole_load harg1 zz, whole_load harg2 zz, whole_load harg3 zz, whole_load harg4 zz]
    isplitl [H5]
    · iexists _; isplitr; swap; · iexact H5
      ipureintro
      unfold run_first.sl.H5_1
      rw [whole_store _ _ zz, whole_load harg1 zz, whole_load harg2 zz]
    iexists _; isplitr; swap; · iexact H6
    ipureintro
    rw [whole_store _ _ zz, whole_load harg1 zz]

set_option maxHeartbeats 1000000 in
/-- THE BODY AT A LATER POINT: from the inputs' buffers at `x0 … x3`, the codes' buffer at `x5` and the scale's at `x6`, it ends with
    the last two as they were and the block of `y` computed from the codes `x5`. -/
theorem run_later (c : Dev nD) (i : grid0.Coords) (arg1 : Memref sig .tc .vmem S1x1 .f32) (harg1 : arg1.IsWhole) (arg2 : Memref sig .tc .vmem S384x7168 .bf16) (harg2 : arg2.IsWhole) (arg3 : Memref sig .tc .vmem S7168x512 .fp8e4m3) (harg3 : arg3.IsWhole) (arg4 : Memref sig .tc .vmem S1x512 .f32) (harg4 : arg4.IsWhole) (arg5 : Memref sig .tc .vmem S384x512 .bf16) (harg5 : arg5.IsWhole) (arg6 : Memref sig .tc .vmem S384x7168 .fp8e4m3) (harg6 : arg6.IsWhole) (arg7 : Memref sig .tc .vmem S1x1 .f32) (harg7 : arg7.IsWhole) (hc0 : ¬ isFirst i)
    (x0 : Vec F S1x1 .f32) (x1 : Vec F S384x7168 .bf16) (x2 : Vec F S7168x512 .fp8e4m3) (x3 : Vec F S1x512 .f32) (x5 : Vec F S384x7168 .fp8e4m3) (x6 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 x0 x5 x2 x3) ∗ owns (c : Thread nD τ) arg6 fullShare x5 ∗ owns (c : Thread nD τ) arg7 fullShare x6) -∗ K ⟨⟩))
          ⊢ wp frame (wpE (defs₀ (F := F)) Variants.none c none) E (cc0__linear_kernel i arg1 harg1 arg2 harg2 arg3 harg3 arg4 harg4 arg5 harg5 arg6 harg6 arg7 harg7) K := by
    intro E K
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [whole_store _ _ zz, whole_load harg1 zz, whole_load harg6 zz, whole_load harg3 zz, whole_load harg4 zz]
    isplitl [H5]
    · iexists _; isplitr; · ipureintro; exact harg6.read_unread _
      iexact H5
    iexists _; isplitr; · ipureintro; exact harg7.read_unread _
    iexact H6

end Cert.KernelIdeal.Run

end
-- ==== Proof.KernelFrame.lean ====
/- The kernel's pipeline as a whole: what each staging buffer holds after the body at each point, the body's obligation at every point,
   the run of the program, and the frame claim. The codes and the scale are stored at the first point only and written back at
   the last; between the two their buffers keep what the first point stored (`found_codes`, `found_scale`). -/
module

public import proofs.«01_k».proof.Proof.KernelRun
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first grid point. -/
abbrev t0 : Fin cfg0.N := ⟨0, Nat.lt_of_lt_of_eq (by decide) N_0.symm⟩

/-- The scale as the first point reads it. -/
def scale (c : Dev nD) : Vec F S1x1 .f32 := k0_pay1 (iblk m c 0 t0)

/-- The codes as the first point computes them. -/
def codes (c : Dev nD) : Vec F S384x7168 .fp8e4m3 := k0_pay3 (k0_pay1 (iblk m c 0 t0)) (iblk m c 1 t0)

/-- The block of `y` that point `t` computes: the codes against the point's block of weights. -/
def yblock (c : Dev nD) (t : Fin cfg0.N) : Vec F S384x512 .bf16 := k0_pay2 (iblk m c 0 t) (codes m c) (iblk m c 2 t) (iblk m c 3 t)

/-- The proof data of the one pipeline on core `c`: after the body at point `t` each input's buffer holds its block, the first output's
    the point's block of `y`, the second's the codes, the third's the scale. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yblock m c t
    | ⟨5, _⟩ => codes m c
    | ⟨6, _⟩ => scale m c
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yblock m c t := by dsimp only [dats]
theorem after0_5 (c : Dev nD) (t : Fin cfg0.N) : (dats m 0 c).after 5 t = codes m c := by dsimp only [dats]
theorem after0_6 (c : Dev nD) (t : Fin cfg0.N) : (dats m 0 c).after 6 t = scale m c := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The two outputs stored once -/

/-- The second and third outputs are idle (not stored into) exactly at the points after the first. -/
theorem idle5 (t : Fin cfg0.N) : cfg0.idle 5 (grid0.coords t) = true ↔ t.val ≠ 0 := by
  show (!(k0_cond1 (grid0.coords t) == 1#1)) = true ↔ _
  rw [Bool.not_eq_true', beq_eq_false_iff_ne]
  exact not_congr (isFirst_iff t)
theorem idle6 (t : Fin cfg0.N) : cfg0.idle 6 (grid0.coords t) = true ↔ t.val ≠ 0 := idle5 t

/-- At every point after the first, the body finds the codes in the second output's buffer. -/
theorem found_codes (c : Dev nD) : ∀ (n : ℕ) (h : n + 1 < cfg0.N) (d), (dats m 0 c).before 5 ⟨n + 1, h⟩ d = codes m c := by
  intro n
  induction n with
  | zero =>
    intro h d
    rw [(dats m 0 c).before_of_pos 5 _ (Nat.succ_ne_zero _) ((cfg0.win 5).fetch_out rfl _)]
    have hf : (cfg0.win 5).flush t0 = false := by
      rw [← Bool.not_eq_true, flush0_5]; decide
    have hi : cfg0.idle 5 (grid0.coords t0) = false := by
      rw [← Bool.not_eq_true, idle5]; decide
    rw [if_neg (by show ¬ (cfg0.win 5).flush t0 = true; rw [hf]; decide)]
    show (dats m 0 c).left 5 t0 d = _
    unfold Dat.left
    rw [show cfg0.idle 5 (cfg0.grid.coords t0) = false from hi]
    show (dats m 0 c).kept 5 t0 d = _
    unfold Dat.kept
    rw [Pipeline.fill_of_clip_none 5 _ (fun _ => rfl) d ((dats m 0 c).after 5 _), Pipeline.Window.fill_cut, after0_5]
  | succ n ih =>
    intro h d
    have hN : n + 1 + 1 < 7 := Nat.lt_of_lt_of_eq h N_0
    rw [(dats m 0 c).before_of_pos 5 _ (Nat.succ_ne_zero _) ((cfg0.win 5).fetch_out rfl _)]
    have hf : ¬ (cfg0.win 5).flush (⟨n + 1, Nat.lt_of_succ_lt h⟩ : Fin cfg0.N) = true := by
      rw [flush0_5]; show ¬ (n + 1) % 7 = 6; omega
    have hi : cfg0.idle 5 (grid0.coords (⟨n + 1, Nat.lt_of_succ_lt h⟩ : Fin cfg0.N)) = true := by
      rw [idle5]; exact Nat.succ_ne_zero n
    rw [if_neg (by exact hf)]
    show (dats m 0 c).left 5 (⟨n + 1, Nat.lt_of_succ_lt h⟩ : Fin cfg0.N) d = _
    unfold Dat.left
    rw [show cfg0.idle 5 (cfg0.grid.coords (⟨n + 1, Nat.lt_of_succ_lt h⟩ : Fin cfg0.N)) = true from hi]
    exact ih (Nat.lt_of_succ_lt h) d

/-- At every point after the first, the body finds the scale in the third output's buffer. -/
theorem found_scale (c : Dev nD) : ∀ (n : ℕ) (h : n + 1 < cfg0.N) (d), (dats m 0 c).before 6 ⟨n + 1, h⟩ d = scale m c := by
  intro n
  induction n with
  | zero =>
    intro h d
    rw [(dats m 0 c).before_of_pos 6 _ (Nat.succ_ne_zero _) ((cfg0.win 6).fetch_out rfl _)]
    have hf : (cfg0.win 6).flush t0 = false := by
      rw [← Bool.not_eq_true, flush0_6]; decide
    have hi : cfg0.idle 6 (grid0.coords t0) = false := by
      rw [← Bool.not_eq_true, idle6]; decide
    rw [if_neg (by show ¬ (cfg0.win 6).flush t0 = true; rw [hf]; decide)]
    show (dats m 0 c).left 6 t0 d = _
    unfold Dat.left
    rw [show cfg0.idle 6 (cfg0.grid.coords t0) = false from hi]
    show (dats m 0 c).kept 6 t0 d = _
    unfold Dat.kept
    rw [Pipeline.fill_of_clip_none 6 _ (fun _ => rfl) d ((dats m 0 c).after 6 _), Pipeline.Window.fill_cut, after0_6]
  | succ n ih =>
    intro h d
    have hN : n + 1 + 1 < 7 := Nat.lt_of_lt_of_eq h N_0
    rw [(dats m 0 c).before_of_pos 6 _ (Nat.succ_ne_zero _) ((cfg0.win 6).fetch_out rfl _)]
    have hf : ¬ (cfg0.win 6).flush (⟨n + 1, Nat.lt_of_succ_lt h⟩ : Fin cfg0.N) = true := by
      rw [flush0_6]; show ¬ (n + 1) % 7 = 6; omega
    have hi : cfg0.idle 6 (grid0.coords (⟨n + 1, Nat.lt_of_succ_lt h⟩ : Fin cfg0.N)) = true := by
      rw [idle6]; exact Nat.succ_ne_zero n
    rw [if_neg (by exact hf)]
    show (dats m 0 c).left 6 (⟨n + 1, Nat.lt_of_succ_lt h⟩ : Fin cfg0.N) d = _
    unfold Dat.left
    rw [show cfg0.idle 6 (cfg0.grid.coords (⟨n + 1, Nat.lt_of_succ_lt h⟩ : Fin cfg0.N)) = true from hi]
    exact ih (Nat.lt_of_succ_lt h) d

/-- The same, at a point given with its proof of not being the first. -/
theorem before0_5 (c : Dev nD) (t : Fin cfg0.N) (h : t.val ≠ 0) (d) : (dats m 0 c).before 5 t d = codes m c := by
  obtain ⟨n, hn⟩ := t
  cases n with
  | zero => exact absurd rfl h
  | succ n => exact found_codes m c n hn d
theorem before0_6 (c : Dev nD) (t : Fin cfg0.N) (h : t.val ≠ 0) (d) : (dats m 0 c).before 6 t d = scale m c := by
  obtain ⟨n, hn⟩ := t
  cases n with
  | zero => exact absurd rfl h
  | succ n => exact found_scale m c n hn d

/-- The codes' buffer is handed back at the codes wherever the point is: where the body stores it, where it is written back, and where it
    is only kept. -/
theorem leaves5 (c : Dev nD) (t : Fin cfg0.N) :
    owns (c : Thread nD τ) (st0_5 t) fullShare (codes m c) ⊢ (dats m 0 c).leavesExact 5 t := by
  by_cases h0 : t.val = 0
  · have hi : cfg0.idle 5 (cfg0.grid.coords t) = false := by rw [← Bool.not_eq_true]; exact fun h => (idle5 t).mp h h0
    unfold Dat.leavesExact; rw [hi]; dsimp only; rw [after0_5]
  · have hi : cfg0.idle 5 (cfg0.grid.coords t) = true := (idle5 t).mpr h0
    cases hf : (cfg0.win 5).flush t
    · rw [(dats m 0 c).leavesExact_idle 5 t hi hf]
      iintro H; iexists codes m c; rw [before0_5 m c t h0]; iexact H
    · unfold Dat.leavesExact; rw [hi, hf]; dsimp only; rw [after0_5]
/-- The same of the scale's buffer. -/
theorem leaves6 (c : Dev nD) (t : Fin cfg0.N) :
    owns (c : Thread nD τ) (st0_6 t) fullShare (scale m c) ⊢ (dats m 0 c).leavesExact 6 t := by
  by_cases h0 : t.val = 0
  · have hi : cfg0.idle 6 (cfg0.grid.coords t) = false := by rw [← Bool.not_eq_true]; exact fun h => (idle6 t).mp h h0
    unfold Dat.leavesExact; rw [hi]; dsimp only; rw [after0_6]
  · have hi : cfg0.idle 6 (cfg0.grid.coords t) = true := (idle6 t).mpr h0
    cases hf : (cfg0.win 6).flush t
    · rw [(dats m 0 c).leavesExact_idle 6 t hi hf]
      iintro H; iexists scale m c; rw [before0_6 m c t h0]; iexact H
    · unfold Dat.leavesExact; rw [hi, hf]; dsimp only; rw [after0_6]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

set_option maxHeartbeats 800000 in
/-- The body at any point: at the first `run_first` applies, at every other `run_later`, the codes and the scale found as the first
    point left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val = 0
  · obtain rfl : t = t0 := Fin.ext h0
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_first c (grid0.coords t0) _ _ _ _ _ _ _ _ _ _ _ _ _ _ ((isFirst_iff t0).mpr h0) (iblk m c 0 t0) (iblk m c 1 t0) (iblk m c 2 t0) (iblk m c 3 t0)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t0); iexact H5
    iapply (leaves6 m c t0); iexact H6
  · simp only [before0_5 m c t h0, before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_later c (grid0.coords t) _ _ _ _ _ _ _ _ _ _ _ _ _ _ (fun h => h0 ((isFirst_iff t).mp h)) (iblk m c 0 t) (iblk m c 1 t) (iblk m c 2 t) (iblk m c 3 t) (codes m c) (scale m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t); iexact H5
    iapply (leaves6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program ends, with the pipeline's arrays at what the proof data says, every later host line run on them, and
    every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- THE FRAME of the kernel: every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.KernelValue.lean ====
/- What the kernel's three results hold after the run, as functions of the four arguments: the codes and the scale as the first point
   computes them, and `y` block by block, column `j` being column `j % 512` of the block that point `j / 512` computes. -/
module

public import proofs.«01_k».proof.Proof.KernelFrame
public import Idealize.ShloMosaic.Lib.Pipeline.Value
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The results as functions of the arguments -/

/-- The scale as a `1 × 1` array. -/
abbrev scaleOf (a1 : Vec F S1 .f32) : Vec F S1x1 .f32 := shapeCast S1x1 a1 shapeCasts_S1_S1x1

/-- The codes, from `x` and its scale. -/
def codesOf (a0 : Vec F S1x384x7168 .bf16) (a1 : Vec F S1 .f32) : Vec F S384x7168 .fp8e4m3 :=
  k0_pay3 (k0_pay1 (scaleOf a1)) (shapeCast S384x7168 a0 shapeCasts_S1x384x7168_S384x7168)

/-- Column `512 * t + j` of a matrix of 3584 columns. -/
def col (t : Fin cfg0.N) (j : Fin 512) : Fin 3584 :=
  ⟨t.val * 512 + j.val, by have := Nat.lt_of_lt_of_eq t.isLt N_0; have := j.isLt; omega⟩

/-- The weights' columns `512 * t …`, all their rows. -/
def wBlock (a2 : Vec F S7168x3584 .fp8e4m3) (t : Fin cfg0.N) : Vec F S7168x512 .fp8e4m3 :=
  fun j => a2 (fun a => match a with | ⟨0, _⟩ => (j 0 : Fin 7168) | ⟨1, _⟩ => col t (j 1 : Fin 512))

/-- The same columns of the weights' scales. -/
def wsBlock (a3 : Vec F S3584 .f32) (t : Fin cfg0.N) : Vec F S1x512 .f32 :=
  fun j => a3 (fun a => match a with | ⟨0, _⟩ => col t (j 1 : Fin 512))

/-- The block of `y` that point `t` computes. -/
def yBlockOf (a0 : Vec F S1x384x7168 .bf16) (a1 : Vec F S1 .f32) (a2 : Vec F S7168x3584 .fp8e4m3) (a3 : Vec F S3584 .f32) (t : Fin cfg0.N) :
    Vec F S384x512 .bf16 :=
  k0_pay2 (scaleOf a1) (codesOf a0 a1) (wBlock a2 t) (wsBlock a3 t)

/-- The point whose block holds a column, and the column within the block. -/
def blockOf (i : S384x3584.Idx) : Fin cfg0.N :=
  ⟨(i 1).val / 512, Nat.lt_of_lt_of_eq (by have h : (i 1).val < 3584 := (i 1).isLt; omega : (i 1).val / 512 < 7) N_0.symm⟩
def within (i : S384x3584.Idx) : S384x512.Idx :=
  fun a => match a with | ⟨0, _⟩ => (i 0 : Fin 384) | ⟨1, _⟩ => (⟨(i 1).val % 512, Nat.mod_lt _ (by decide)⟩ : Fin 512)

/-- All of `y`. -/
def yOf (a0 : Vec F S1x384x7168 .bf16) (a1 : Vec F S1 .f32) (a2 : Vec F S7168x3584 .fp8e4m3) (a3 : Vec F S3584 .f32) : Vec F S384x3584 .bf16 :=
  fun i => yBlockOf a0 a1 a2 a3 (blockOf i) (within i)

variable (m : (ℓ : Loc nD τ sig) → Buf (Elt F) ℓ) (ρ : Dev nD → PrngReg)

/-! ## The inputs' blocks -/

/-- The arrays that the windows stage, as the region finds them: the arguments reshaped. -/
theorem entry_v0 (c : Dev nD) : V m c main_v0 = scaleOf (m ((c : Thread nD τ).loc main_arg1)) := by
  show StableHlo.after (List.flatten [hostOps0]) (fun b => m (c, b)) _ = _
  simp only [hostOps0, List.flatten_cons, List.flatten_nil, List.append_nil, List.cons_append, List.nil_append]
  after_results
  try rfl
theorem entry_v1 (c : Dev nD) : V m c main_v1 = shapeCast S384x7168 (m ((c : Thread nD τ).loc main_arg0)) shapeCasts_S1x384x7168_S384x7168 := by
  show StableHlo.after (List.flatten [hostOps0]) (fun b => m (c, b)) _ = _
  simp only [hostOps0, List.flatten_cons, List.flatten_nil, List.append_nil, List.cons_append, List.nil_append]
  after_results
  try rfl
theorem entry_v2 (c : Dev nD) : V m c main_v2 = shapeCast S1x3584 (m ((c : Thread nD τ).loc main_arg3)) shapeCasts_S3584_S1x3584 := by
  show StableHlo.after (List.flatten [hostOps0]) (fun b => m (c, b)) _ = _
  simp only [hostOps0, List.flatten_cons, List.flatten_nil, List.append_nil, List.cons_append, List.nil_append]
  after_results
  try rfl

/-- The block indices of the windows that stage one block throughout are zero. -/
theorem idx_zero0 : ∀ t : Fin cfg0.N, win0_0.index t (0 : Fin 2) = 0 ∧ win0_0.index t (1 : Fin 2) = 0 :=
  (by decide +kernel : ∀ t : Fin grid0.N, _)
theorem idx_zero1 : ∀ t : Fin cfg0.N, win0_1.index t (0 : Fin 2) = 0 ∧ win0_1.index t (1 : Fin 2) = 0 :=
  (by decide +kernel : ∀ t : Fin grid0.N, _)
theorem idx_zero5 : ∀ t : Fin cfg0.N, win0_5.index t (0 : Fin 2) = 0 ∧ win0_5.index t (1 : Fin 2) = 0 :=
  (by decide +kernel : ∀ t : Fin grid0.N, _)
theorem idx_zero6 : ∀ t : Fin cfg0.N, win0_6.index t (0 : Fin 2) = 0 ∧ win0_6.index t (1 : Fin 2) = 0 :=
  (by decide +kernel : ∀ t : Fin grid0.N, _)
/-- Those of the windows that move along the columns are the point. -/
theorem idx_col2 : ∀ t : Fin cfg0.N, win0_2.index t (0 : Fin 2) = 0 ∧ win0_2.index t (1 : Fin 2) = t.val :=
  (by decide +kernel : ∀ t : Fin grid0.N, _)
theorem idx_col3 : ∀ t : Fin cfg0.N, win0_3.index t (0 : Fin 2) = 0 ∧ win0_3.index t (1 : Fin 2) = t.val :=
  (by decide +kernel : ∀ t : Fin grid0.N, _)
theorem idx_col4 : ∀ t : Fin cfg0.N, win0_4.index t (0 : Fin 2) = 0 ∧ win0_4.index t (1 : Fin 2) = t.val :=
  (by decide +kernel : ∀ t : Fin grid0.N, _)

theorem emb0 (t : Fin cfg0.N) (j : S1x1.Idx) : ((cfg0.win 0).blk t).view.emb j = j := by
  obtain ⟨e0, e1⟩ := idx_zero0 t
  funext a; apply Fin.ext
  match a with
  | ⟨0, _⟩ => show win0_0.index t (0 : Fin 2) * 1 + 1 * (j 0).val = (j 0).val; omega
  | ⟨1, _⟩ => show win0_0.index t (1 : Fin 2) * 1 + 1 * (j 1).val = (j 1).val; omega
theorem emb1 (t : Fin cfg0.N) (j : S384x7168.Idx) : ((cfg0.win 1).blk t).view.emb j = j := by
  obtain ⟨e0, e1⟩ := idx_zero1 t
  funext a; apply Fin.ext
  match a with
  | ⟨0, _⟩ => show win0_1.index t (0 : Fin 2) * 384 + 1 * (j 0).val = (j 0).val; omega
  | ⟨1, _⟩ => show win0_1.index t (1 : Fin 2) * 7168 + 1 * (j 1).val = (j 1).val; omega
theorem emb5 (t : Fin cfg0.N) (j : S384x7168.Idx) : ((cfg0.win 5).blk t).view.emb j = j := by
  obtain ⟨e0, e1⟩ := idx_zero5 t
  funext a; apply Fin.ext
  match a with
  | ⟨0, _⟩ => show win0_5.index t (0 : Fin 2) * 384 + 1 * (j 0).val = (j 0).val; omega
  | ⟨1, _⟩ => show win0_5.index t (1 : Fin 2) * 7168 + 1 * (j 1).val = (j 1).val; omega
theorem emb6 (t : Fin cfg0.N) (j : S1x1.Idx) : ((cfg0.win 6).blk t).view.emb j = j := by
  obtain ⟨e0, e1⟩ := idx_zero6 t
  funext a; apply Fin.ext
  match a with
  | ⟨0, _⟩ => show win0_6.index t (0 : Fin 2) * 1 + 1 * (j 0).val = (j 0).val; omega
  | ⟨1, _⟩ => show win0_6.index t (1 : Fin 2) * 1 + 1 * (j 1).val = (j 1).val; omega
theorem emb2 (t : Fin cfg0.N) (j : S7168x512.Idx) : ((cfg0.win 2).blk t).view.emb j
    = (fun a => match a with | ⟨0, _⟩ => (j 0 : Fin 7168) | ⟨1, _⟩ => col t (j 1 : Fin 512) : S7168x3584.Idx) := by
  obtain ⟨e0, e1⟩ := idx_col2 t
  funext a; apply Fin.ext
  match a with
  | ⟨0, _⟩ => show win0_2.index t (0 : Fin 2) * 7168 + 1 * (j 0).val = (j 0).val; omega
  | ⟨1, _⟩ => show win0_2.index t (1 : Fin 2) * 512 + 1 * (j 1).val = t.val * 512 + (j 1).val; rw [e1]; omega
theorem emb3 (t : Fin cfg0.N) (j : S1x512.Idx) : ((cfg0.win 3).blk t).view.emb j
    = (fun a => match a with | ⟨0, _⟩ => (j 0 : Fin 1) | ⟨1, _⟩ => col t (j 1 : Fin 512) : S1x3584.Idx) := by
  obtain ⟨e0, e1⟩ := idx_col3 t
  funext a; apply Fin.ext
  match a with
  | ⟨0, _⟩ => show win0_3.index t (0 : Fin 2) * 1 + 1 * (j 0).val = (j 0).val; omega
  | ⟨1, _⟩ => show win0_3.index t (1 : Fin 2) * 512 + 1 * (j 1).val = t.val * 512 + (j 1).val; rw [e1]; omega
theorem emb4 (t : Fin cfg0.N) (j : S384x512.Idx) : ((cfg0.win 4).blk t).view.emb j
    = (fun a => match a with | ⟨0, _⟩ => (j 0 : Fin 384) | ⟨1, _⟩ => col t (j 1 : Fin 512) : S384x3584.Idx) := by
  obtain ⟨e0, e1⟩ := idx_col4 t
  funext a; apply Fin.ext
  match a with
  | ⟨0, _⟩ => show win0_4.index t (0 : Fin 2) * 384 + 1 * (j 0).val = (j 0).val; omega
  | ⟨1, _⟩ => show win0_4.index t (1 : Fin 2) * 512 + 1 * (j 1).val = t.val * 512 + (j 1).val; rw [e1]; omega

/-- Each input's block at a point, as a function of its argument. -/
theorem iblk0 (c : Dev nD) (t : Fin cfg0.N) : iblk m c 0 t = scaleOf (m ((c : Thread nD τ).loc main_arg1)) := by
  rw [← entry_v0]
  funext j; show V m c main_v0 (((cfg0.win 0).blk t).view.emb j) = V m c main_v0 j; rw [emb0]
theorem iblk1 (c : Dev nD) (t : Fin cfg0.N) :
    iblk m c 1 t = shapeCast S384x7168 (m ((c : Thread nD τ).loc main_arg0)) shapeCasts_S1x384x7168_S384x7168 := by
  rw [← entry_v1]
  funext j; show V m c main_v1 (((cfg0.win 1).blk t).view.emb j) = V m c main_v1 j; rw [emb1]
theorem iblk2 (c : Dev nD) (t : Fin cfg0.N) : iblk m c 2 t = wBlock (m ((c : Thread nD τ).loc main_arg2)) t := by
  rw [← V_main_arg2 m c]
  funext j; show V m c main_arg2 (((cfg0.win 2).blk t).view.emb j) = V m c main_arg2 _; rw [emb2]
theorem iblk3 (c : Dev nD) (t : Fin cfg0.N) : iblk m c 3 t = wsBlock (m ((c : Thread nD τ).loc main_arg3)) t := by
  funext j
  show V m c main_v2 (((cfg0.win 3).blk t).view.emb j) = _
  rw [emb3, entry_v2]
  refine shapeCast_apply _ _ _ (fun a => match a with | ⟨0, _⟩ => col t (j 1 : Fin 512) : S3584.Idx) ?_
  rw [Shape.rowMajor_val_one, Shape.rowMajor_val_two]
  have h0 : (j 0).val < 1 := (j 0).isLt
  show (col t (j 1 : Fin 512)).val = (j 0).val * 3584 + (col t (j 1 : Fin 512)).val
  omega

theorem codes_eq (c : Dev nD) : codes m c = codesOf (m ((c : Thread nD τ).loc main_arg0)) (m ((c : Thread nD τ).loc main_arg1)) := by
  unfold codes codesOf; rw [iblk0, iblk1]
theorem scale_eq (c : Dev nD) : scale m c = k0_pay1 (scaleOf (m ((c : Thread nD τ).loc main_arg1))) := by
  unfold scale; rw [iblk0]
theorem yblock_eq (c : Dev nD) (t : Fin cfg0.N) : yblock m c t
    = yBlockOf (m ((c : Thread nD τ).loc main_arg0)) (m ((c : Thread nD τ).loc main_arg1)) (m ((c : Thread nD τ).loc main_arg2)) (m ((c : Thread nD τ).loc main_arg3)) t := by
  unfold yblock yBlockOf; rw [iblk0, iblk2, iblk3, codes_eq]

/-! ## The pipeline's three output arrays after the run -/

/-- The last point, where the codes and the scale are written back. -/
abbrev tLast : Fin cfg0.N := ⟨6, Nat.lt_of_lt_of_eq (by decide) N_0.symm⟩

theorem cut5 (t : Fin cfg0.N) (X : Vec F S384x7168 .fp8e4m3) : (cfg0.win 5).cut (grid0.coords t) X = ((cfg0.win 5).blk t).view.read (Elt F) X := by
  funext j; show X j = X (((cfg0.win 5).blk t).view.emb j); rw [emb5]
theorem cut6 (t : Fin cfg0.N) (X : Vec F S1x1 .f32) : (cfg0.win 6).cut (grid0.coords t) X = ((cfg0.win 6).blk t).view.read (Elt F) X := by
  funext j; show X j = X (((cfg0.win 6).blk t).view.emb j); rw [emb6]

/-- The second output's array ends at the codes. -/
theorem final5 (c : Dev nD) : (dats m 0 c).arrAt 5 cfg0.N = codes m c :=
  (dats m 0 c).arrAt_eq_of_cover 5 (codes m c)
    (fun t _ => by
      show (cfg0.win 5).cut (grid0.coords t) ((dats m 0 c).after 5 t) = _
      rw [after0_5]; exact cut5 t _)
    (fun i => ⟨tLast, (flush0_5 tLast).mpr rfl, by
      have h := ((cfg0.win 5).blk tLast).view.emb_mem_set i; rwa [emb5] at h⟩)

/-- The third output's array ends at the scale. -/
theorem final6 (c : Dev nD) : (dats m 0 c).arrAt 6 cfg0.N = scale m c :=
  (dats m 0 c).arrAt_eq_of_cover 6 (scale m c)
    (fun t _ => by
      show (cfg0.win 6).cut (grid0.coords t) ((dats m 0 c).after 6 t) = _
      rw [after0_6]; exact cut6 t _)
    (fun i => ⟨tLast, (flush0_6 tLast).mpr rfl, by
      have h := ((cfg0.win 6).blk tLast).view.emb_mem_set i; rwa [emb6] at h⟩)

/-- All of `y` read through point `t`'s block is the block. -/
theorem yOf_block (a0 : Vec F S1x384x7168 .bf16) (a1 : Vec F S1 .f32) (a2 : Vec F S7168x3584 .fp8e4m3) (a3 : Vec F S3584 .f32) (t : Fin cfg0.N)
    (j : S384x512.Idx) : yOf a0 a1 a2 a3 (((cfg0.win 4).blk t).view.emb j) = yBlockOf a0 a1 a2 a3 t j := by
  rw [emb4]
  have hj : (j 1).val < 512 := (j 1).isLt
  have ht : blockOf (fun a => match a with | ⟨0, _⟩ => (j 0 : Fin 384) | ⟨1, _⟩ => col t (j 1 : Fin 512)) = t :=
    Fin.ext (by show (t.val * 512 + (j 1).val) / 512 = t.val; omega)
  have hw : within (fun a => match a with | ⟨0, _⟩ => (j 0 : Fin 384) | ⟨1, _⟩ => col t (j 1 : Fin 512)) = j := by
    funext a; apply Fin.ext
    match a with
    | ⟨0, _⟩ => rfl
    | ⟨1, _⟩ => show (t.val * 512 + (j 1).val) % 512 = (j 1).val; omega
  unfold yOf
  rw [ht, hw]

/-- The first output's array ends at all of `y`. -/
theorem final4 (c : Dev nD) : (dats m 0 c).arrAt 4 cfg0.N
    = yOf (m ((c : Thread nD τ).loc main_arg0)) (m ((c : Thread nD τ).loc main_arg1)) (m ((c : Thread nD τ).loc main_arg2)) (m ((c : Thread nD τ).loc main_arg3)) :=
  (dats m 0 c).arrAt_eq_of_cover 4 (yOf (m ((c : Thread nD τ).loc main_arg0)) (m ((c : Thread nD τ).loc main_arg1)) (m ((c : Thread nD τ).loc main_arg2)) (m ((c : Thread nD τ).loc main_arg3)))
    (fun t _ => by
      show (cfg0.win 4).cut (grid0.coords t) ((dats m 0 c).after 4 t) = _
      rw [after0_4, yblock_eq]
      funext j
      exact (yOf_block _ _ _ _ t j).symm)
    (fun i => ⟨blockOf i, flush0_4 _, by
      have h := ((cfg0.win 4).blk (blockOf i)).view.emb_mem_set (within i)
      rw [emb4] at h
      convert h using 1
      funext a; apply Fin.ext
      match a with
      | ⟨0, _⟩ => rfl
      | ⟨1, _⟩ =>
        show (i 1).val = (i 1).val / 512 * 512 + (i 1).val % 512
        omega⟩)

/-! ## The program's three results -/

/-- THE KERNEL'S RUN: every execution ends with the three results at `y`, the codes and the scale as functions of the arguments, the
    arguments unchanged. -/
theorem run_values : θ_run defs (onTc (τ := τ) (main (F := F))) ⟨m, fun _ => 0, ρ⟩ fun r => ∀ c : Dev nD,
      r.2.mem ((c : Thread nD τ).loc main_v4) = shapeCast S1x384x3584 (yOf (m ((c : Thread nD τ).loc main_arg0)) (m ((c : Thread nD τ).loc main_arg1)) (m ((c : Thread nD τ).loc main_arg2)) (m ((c : Thread nD τ).loc main_arg3))) shapeCasts_S384x3584_S1x384x3584
      ∧ r.2.mem ((c : Thread nD τ).loc main_v5) = shapeCast S1x384x7168 (codesOf (m ((c : Thread nD τ).loc main_arg0)) (m ((c : Thread nD τ).loc main_arg1))) shapeCasts_S384x7168_S1x384x7168
      ∧ r.2.mem ((c : Thread nD τ).loc main_v6) = shapeCast S1 (k0_pay1 (scaleOf (m ((c : Thread nD τ).loc main_arg1)))) shapeCasts_S1x1_S1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from (run_main m ρ) & (frame_of m ρ (dats m) (A_eq m) (run_main m ρ))
  · unfold Pipeline.afterTail₀
    simp only [hostOps1, List.flatten_cons, List.flatten_nil, List.append_nil, List.cons_append, List.nil_append]
    after_results
    have h := Pipeline.withArrays_arr spec0 launch0.win.arr_inj c (V0 m c) (fun w => (dats m 0 c).arrAt w cfg0.N) 4
    rw [final4] at h
    exact congrArg (fun X => shapeCast S1x384x3584 X shapeCasts_S384x3584_S1x384x3584) h
  · unfold Pipeline.afterTail₀
    simp only [hostOps1, List.flatten_cons, List.flatten_nil, List.append_nil, List.cons_append, List.nil_append]
    after_results
    have h := Pipeline.withArrays_arr spec0 launch0.win.arr_inj c (V0 m c) (fun w => (dats m 0 c).arrAt w cfg0.N) 5
    rw [final5, codes_eq] at h
    exact congrArg (fun X => shapeCast S1x384x7168 X shapeCasts_S384x7168_S1x384x7168) h
  · unfold Pipeline.afterTail₀
    simp only [hostOps1, List.flatten_cons, List.flatten_nil, List.append_nil, List.cons_append, List.nil_append]
    after_results
    have h := Pipeline.withArrays_arr spec0 launch0.win.arr_inj c (V0 m c) (fun w => (dats m 0 c).arrAt w cfg0.N) 6
    rw [final6, scale_eq] at h
    exact congrArg (fun X => shapeCast S1 X shapeCasts_S1x1_S1) h

end Cert.KernelIdeal.Run

end
-- ==== Proof.Scale.lean ====
/- The reciprocal power of two that brings the scale to one, read over the extended reals: counting the powers of two that the scale's
   magnitude reaches and building the power from its exponent field gives what the logarithm, rounded down, gives. -/
module

public import Idealize.ShloMosaic.PureOps.Ideal.Laws

@[expose] public section

set_option maxRecDepth 16384

noncomputable section

namespace Cert.Scale

open Idealize.ShloMosaic

/-- The float32 whose exponent field is `k`, its sign and fraction fields being zero. -/
def field (k : ℕ) : EReal := Ideal.ofBits .f32 (BitVec.ofNat 32 k <<< 23)

/-- The three fields of that word. -/
theorem field_parts : ∀ k : Fin 256, ((BitVec.ofNat 32 k.val <<< 23).extractLsb' 31 1 == 1#1) = false ∧
    ((BitVec.ofNat 32 k.val <<< 23).extractLsb' 23 8).toNat = k.val ∧ ((BitVec.ofNat 32 k.val <<< 23).extractLsb' 0 23).toNat = 0 := by
  decide +kernel

theorem field_zero : field 0 = 0 := by simp [field, Ideal.ofBits, Ideal.ieee]

theorem field_top : field 255 = ⊤ := by
  have h := field_parts ⟨255, by decide⟩
  simp only at h
  simp only [field, Ideal.ofBits, Ideal.ieee]
  rw [h.1, h.2.1, h.2.2]
  norm_num

/-- A field from 1 to 254 is a power of two. -/
theorem field_normal (k : ℕ) (h0 : 0 < k) (h1 : k < 255) : field k = (((2 : ℝ) ^ ((k : ℤ) - 127) : ℝ) : EReal) := by
  have h := field_parts ⟨k, by omega⟩
  simp only at h
  simp only [field, Ideal.ofBits, Ideal.ieee]
  rw [h.1, h.2.1, h.2.2]
  rw [if_neg (by norm_num; omega), if_neg (by omega)]
  congr 1
  have e : (k : ℤ) - 127 = 23 + ((k : ℤ) - (2 ^ (8 - 1) - 1) - (23 : ℕ)) := by norm_num
  rw [e, zpow_add₀ (by norm_num)]
  norm_num

/-- How many of the 255 positive fields a magnitude reaches. -/
def count (a : EReal) : ℕ := ∑ k : Fin 256, if 0 < k.val ∧ field k.val ≤ a then 1 else 0

theorem sum_le (N : ℕ) (h : N ≤ 255) : (∑ k : Fin 256, if 0 < k.val ∧ k.val ≤ N then 1 else 0) = N := by
  rw [Fin.sum_univ_eq_sum_range (fun k => if 0 < k ∧ k ≤ N then 1 else 0) 256, ← Finset.card_filter]
  have : Finset.filter (fun k => 0 < k ∧ k ≤ N) (Finset.range 256) = Finset.Icc 1 N := by
    ext k; simp only [Finset.mem_filter, Finset.mem_range, Finset.mem_Icc]; omega
  rw [this, Nat.card_Icc]; omega

/-- It is `N` when the fields reached are those up to `N`. -/
theorem count_eq (a : EReal) (N : ℕ) (hN : N ≤ 255) (h : ∀ k, 0 < k → k ≤ 255 → (field k ≤ a ↔ k ≤ N)) : count a = N := by
  rw [← sum_le N hN]
  refine Finset.sum_congr rfl fun k _ => ?_
  have hk := k.isLt
  by_cases h0 : 0 < k.val
  · simp only [h0, true_and, h k.val h0 (by omega)]
  · simp only [h0, false_and]

/-- The exponent from the count, and the power of two from the exponent, on 32-bit words. -/
def exponent (n : BitVec 32) : BitVec 32 := if n = 0#32 ∨ n = 255#32 then 0#32 else n - 126#32
def byFields (n : BitVec 32) : EReal := Ideal.ofBits .f32 ((1#32 - exponent n + 127#32) <<< 23)

/-- The base-2 logarithm of a positive real, rounded down. -/
def lg (r : ℝ) : ℤ := ⌊Real.log r * (1 / Real.log 2)⌋

/-- `2 ^ k` is reached exactly from `k` up to it. -/
theorem pow_le_iff (r : ℝ) (hr : 0 < r) (k : ℤ) : (2 : ℝ) ^ k ≤ r ↔ k ≤ lg r := by
  have hl : 0 < Real.log 2 := Real.log_pos (by norm_num)
  rw [lg, Int.le_floor, mul_one_div, le_div_iff₀ hl, ← Real.log_zpow, Real.log_le_log_iff (by positivity) hr]

/-- The same from the logarithm: no scaling exponent for a subnormal or an infinite magnitude, and a power under the least normal one
    is zero. -/
def byLog (a : EReal) : EReal :=
  if 1 - (if a < (((2 : ℝ) ^ (-126 : ℤ) : ℝ) : EReal) ∨ a = ⊤ then 0 else Ideal.liftRound Int.floor (Ideal.div (Ideal.log a) (Ideal.log (2 : ℝ))) + 1)
      < ((-126 : ℝ) : EReal) then 0
  else Ideal.exp2 (1 - (if a < (((2 : ℝ) ^ (-126 : ℤ) : ℝ) : EReal) ∨ a = ⊤ then 0 else Ideal.liftRound Int.floor (Ideal.div (Ideal.log a) (Ideal.log (2 : ℝ))) + 1))

theorem word_none : ∀ n : ℕ, n = 0 ∨ n = 255 → byFields (BitVec.ofNat 32 n) = field 128 := by
  rintro n (rfl | rfl) <;> rfl

theorem word_some_fin : ∀ n : Fin 255, 0 < n.val →
    (1#32 - exponent (BitVec.ofNat 32 n.val) + 127#32) = BitVec.ofNat 32 (254 - n.val) := by
  unfold exponent
  decide +kernel

theorem word_some (n : ℕ) (h0 : 0 < n) (h1 : n < 255) : byFields (BitVec.ofNat 32 n) = field (254 - n) := by
  unfold byFields field
  rw [word_some_fin ⟨n, h1⟩ h0]

/-- Where the logarithm is not read, both are two. -/
theorem byLog_none (a : EReal) (h : a < (((2 : ℝ) ^ (-126 : ℤ) : ℝ) : EReal) ∨ a = ⊤) : byLog a = field 128 := by
  rw [field_normal 128 (by decide) (by decide), byLog, if_pos h]
  have : (1 : EReal) - 0 = ((1 : ℝ) : EReal) := by simp
  rw [this, if_neg (by rw [EReal.coe_lt_coe_iff]; norm_num), Ideal.exp2_coe]
  congr 1
  show (2 : ℝ) ^ (1 : ℝ) = _
  norm_num

/-- Where it is, with `m` the logarithm rounded down. -/
theorem byLog_some (r : ℝ) (h : (2 : ℝ) ^ (-126 : ℤ) ≤ r) :
    byLog r = if 126 < lg r then 0 else (((2 : ℝ) ^ (-lg r) : ℝ) : EReal) := by
  have hr : 0 < r := lt_of_lt_of_le (by positivity) h
  have hc : ¬ ((r : EReal) < (((2 : ℝ) ^ (-126 : ℤ) : ℝ) : EReal) ∨ (r : EReal) = ⊤) := by
    rintro (h' | h')
    · rw [EReal.coe_lt_coe_iff] at h'; linarith
    · exact EReal.coe_ne_top r h'
  have hl : Real.log 2 ≠ 0 := (Real.log_pos (by norm_num)).ne'
  have he : Ideal.liftRound Int.floor (Ideal.div (Ideal.log r) (Ideal.log (2 : ℝ))) = ((lg r : ℝ) : EReal) := by
    rw [Ideal.log_coe, if_neg (by linarith), Ideal.log_coe, if_neg (by norm_num), Ideal.div_coe hl, ← EReal.coe_mul, Ideal.liftRound_coe]
    rfl
  have hk : (1 : EReal) - (((lg r : ℝ) : EReal) + 1) = ((-(lg r : ℝ) : ℝ) : EReal) := by
    rw [← EReal.coe_one, ← EReal.coe_add, ← EReal.coe_sub]; congr 1; ring
  rw [byLog, if_neg hc, he, hk]
  by_cases hm : 126 < lg r
  · rw [if_pos hm, if_pos]
    rw [EReal.coe_lt_coe_iff]
    have : (126 : ℝ) < (lg r : ℝ) := by exact_mod_cast hm
    linarith
  · rw [if_neg hm, if_neg, Ideal.exp2_coe]
    · congr 1
      show (2 : ℝ) ^ (-(lg r : ℝ)) = _
      rw [← Int.cast_neg, Real.rpow_intCast]
    · rw [EReal.coe_lt_coe_iff]
      have : (lg r : ℝ) ≤ 126 := by exact_mod_cast not_lt.mp hm
      linarith

/-- THE TWO AGREE at every magnitude. -/
theorem byFields_eq_byLog (a : EReal) (h0 : 0 ≤ a) : byFields (BitVec.ofNat 32 (count a)) = byLog a := by
  induction a with
  | bot => simp at h0
  | top =>
    rw [count_eq ⊤ 255 (le_refl _) (fun k _ hk => by simp [hk]), word_none 255 (.inr rfl), byLog_none _ (.inr rfl)]
  | coe r =>
    by_cases hs : r < (2 : ℝ) ^ (-126 : ℤ)
    · have hc : count (r : EReal) = 0 := count_eq _ 0 (by decide) fun k hk hk' => by
        refine ⟨fun hle => ?_, fun h => by omega⟩
        exfalso
        rcases Nat.lt_or_ge k 255 with h1 | h1
        · rw [field_normal k hk h1, EReal.coe_le_coe_iff] at hle
          have : (2 : ℝ) ^ (-126 : ℤ) ≤ 2 ^ ((k : ℤ) - 127) := zpow_le_zpow_right₀ (by norm_num) (by omega)
          linarith
        · rw [show k = 255 by omega, field_top] at hle
          exact EReal.coe_ne_top r (top_le_iff.mp hle)
      rw [hc, word_none 0 (.inl rfl), byLog_none _ (.inl (by rw [EReal.coe_lt_coe_iff]; exact hs))]
    · have hs' := not_lt.mp hs
      have hr : 0 < r := lt_of_lt_of_le (by positivity) hs'
      have hm : -126 ≤ lg r := by
        exact (pow_le_iff r hr _).mp hs'
      have hc : count (r : EReal) = (min (lg r + 127) 254).toNat := count_eq _ _ (by omega) fun k hk hk' => by
        rcases Nat.lt_or_ge k 255 with h1 | h1
        · rw [field_normal k hk h1, EReal.coe_le_coe_iff, pow_le_iff r hr]; omega
        · rw [show k = 255 by omega, field_top]
          exact ⟨fun h => absurd (top_le_iff.mp h) (EReal.coe_ne_top r), fun h => by omega⟩
      rw [hc, word_some _ (by omega) (by omega), byLog_some r hs']
      by_cases h6 : 126 < lg r
      · rw [if_pos h6, show 254 - (min (lg r + 127) 254).toNat = 0 by omega, field_zero]
      · rw [if_neg h6, field_normal _ (by omega) (by omega)]
        rw [show (((254 - (min (lg r + 127) 254).toNat : ℕ) : ℤ) - 127) = -lg r by omega]

end Cert.Scale

end
-- ==== Proof.Equation.lean ====
/- The kernel's results and the reference's are the same functions of the arguments over the extended reals: the codes element by element,
   `y` as one sum of products per element, and the scale itself. -/
module

public import proofs.«01_k».proof.Proof.KernelValue
public import proofs.«01_k».proof.Proof.Scale
public import proofs.«01_k».proof.Proof.Gen.ReferenceIdeal.Value
public import Idealize.ShloMosaic.PureOps.Ideal.Laws
public import Idealize.ShloMosaic.Lib.WordSum
public import Idealize.ShloMosaic.Lib.ValueIdxCore

@[expose] public section

set_option maxRecDepth 16384

noncomputable section

namespace Cert.Equation

open Idealize.ShloMosaic Cert.KernelIdeal Cert.KernelIdeal.Gen Cert.KernelIdeal.Run

/-! ## The kernel's count of powers -/

/-- The one element of a `1 × 1` array, and the positions of a `1 × 256` one. -/
def one : S1x1.Idx := fun a => match a with | ⟨0, _⟩ => (0 : Fin 1) | ⟨1, _⟩ => (0 : Fin 1)
def at256 (k : Fin 256) : S1x256.Idx := fun a => match a with | ⟨0, _⟩ => (0 : Fin 1) | ⟨1, _⟩ => k

theorem eq_one (j : S1x1.Idx) : j = one := by
  funext a
  match a with
  | ⟨0, _⟩ => exact Subsingleton.elim (α := Fin 1) _ _
  | ⟨1, _⟩ => exact Subsingleton.elim (α := Fin 1) _ _

theorem at256_eta (i : S1x256.Idx) : at256 (i 1) = i := by
  funext a
  match a with
  | ⟨0, _⟩ => exact Subsingleton.elim (α := Fin 1) _ _
  | ⟨1, _⟩ => rfl

/-- The positions of a `1 × 256` array are the numbers below 256. -/
def lanes : S1x256.Idx ≃ Fin 256 where
  toFun i := i 1
  invFun := at256
  left_inv := at256_eta
  right_inv _ := rfl

/-- The magnitude. -/
def mag (x : EReal) : EReal := max x (-x)

theorem mag_nonneg (x : EReal) : 0 ≤ mag x := by
  rcases le_total 0 x with h | h
  · exact le_max_of_le_left h
  · exact le_max_of_le_right (EReal.neg_nonneg.mpr h)

/-- Whether each power is reached, as the kernel's words of 0 and 1. -/
def reached (v1 : FVec Ideal S1x1 .f32) : IVec S1x256 32 :=
  extui 32 (andi (cmpi .sgt (iota .tc S1x256 32 [1] iota_S1x256_d1_w32) (broadcast S1x256 0#32))
    (cmpf .oge (broadcastTo S1x256 (absf v1) broadcasts_S1x1_S1x256)
      (bitcastToFloat .f32 (shli (iota .tc S1x256 32 [1] iota_S1x256_d1_w32) (broadcast S1x256 23#32)) : FVec Ideal S1x256 .f32))) natLt_1_32

theorem sgt_word : ∀ k : Fin 256, (0#32).slt (BitVec.ofNat 32 k.val) = decide (0 < k.val) := by decide +kernel

theorem reached_apply (v1 : FVec Ideal S1x1 .f32) (k : Fin 256) :
    (reached v1 (at256 k)).toNat = if 0 < k.val ∧ Scale.field k.val ≤ mag (v1 one) then 1 else 0 := by
  have hb : broadcastTo S1x256 (absf v1) broadcasts_S1x1_S1x256 (at256 k) = mag (v1 one) :=
    broadcastTo_apply (absf v1) broadcasts_S1x1_S1x256 (at256 k) one (fun a => by
      match a with
      | ⟨0, _⟩ => rfl
      | ⟨1, _⟩ => rfl)
  have hi : iota .tc S1x256 32 [1] iota_S1x256_d1_w32 (at256 k) = BitVec.ofNat 32 k.val := by
    show BitVec.ofNat 32 (0 * 256 + k.val) = _
    rw [Nat.zero_mul, Nat.zero_add]
  show ((IntOp.andi (IntOp.cmpi .sgt (iota .tc S1x256 32 [1] iota_S1x256_d1_w32 (at256 k)) 0#32)
    (Ideal.cmp .oge (broadcastTo S1x256 (absf v1) broadcasts_S1x1_S1x256 (at256 k))
      (Ideal.ofBits .f32 (IntOp.shli .vector (iota .tc S1x256 32 [1] iota_S1x256_d1_w32 (at256 k)) 23#32)))).setWidth 32).toNat = _
  rw [hb, hi]
  show ((IntOp.andi (BitVec.ofBool ((0#32).slt (BitVec.ofNat 32 k.val))) (BitVec.ofBool (decide (Scale.field k.val ≤ mag (v1 one))))).setWidth 32).toNat = _
  rw [sgt_word]
  by_cases h0 : 0 < k.val <;> by_cases h1 : Scale.field k.val ≤ mag (v1 one) <;> simp [h0, h1, IntOp.andi]

theorem count_le (a : EReal) : Scale.count a ≤ 256 := by
  refine (Finset.sum_le_sum (g := fun _ => 1) fun k _ => ?_).trans (by simp)
  split <;> omega

/-- The sum over the 256 lanes is the count of the powers reached. -/
theorem sum_reached (v1 : FVec Ideal S1x1 .f32) (j : S1.Idx) :
    multiReductionI .add [1] S1 (reached v1) 0#32 reduces_S1x256_S1 rfl j = BitVec.ofNat 32 (Scale.count (mag (v1 one))) := by
  have hall : (Finset.univ.filter fun i : S1x256.Idx => reduces_S1x256_S1.drop i = j) = Finset.univ :=
    Finset.filter_true_of_mem fun i _ => funext fun b => by
      match b with
      | ⟨0, _⟩ => exact Subsingleton.elim (α := Fin 1) _ _
  have hsum : ∑ i ∈ Finset.univ.filter (fun i : S1x256.Idx => reduces_S1x256_S1.drop i = j), (reached v1 i).toNat = Scale.count (mag (v1 one)) := by
    rw [hall, Scale.count]
    refine Fintype.sum_equiv lanes _ _ fun i => ?_
    show (reached v1 i).toNat = if 0 < (i 1).val ∧ Scale.field (i 1).val ≤ mag (v1 one) then 1 else 0
    rw [← reached_apply v1 (i 1), at256_eta]
  have hle := count_le (mag (v1 one))
  apply BitVec.eq_of_toNat_eq
  rw [WordSum.toNat_multiReductionI_add (reached v1) reduces_S1x256_S1 rfl j (by rw [hsum]; omega), hsum, BitVec.toNat_ofNat, Nat.mod_eq_of_lt (by omega)]

/-! ## The codes -/

/-- The power of two that the kernel multiplies by. -/
def inv (v1 : FVec Ideal S1x1 .f32) : FVec Ideal S1x1 .f32 :=
  have v29 : IVec S1x1 32 := shapeCast S1x1 (multiReductionI .add [1] S1 (reached v1) 0#32 reduces_S1x256_S1 rfl) shapeCasts_S1_S1x1
  bitcastToFloat .f32 (shli (addi (subi (broadcast S1x1 1#32)
    (select (ori (cmpi .eq v29 (broadcast S1x1 0#32)) (cmpi .eq v29 (broadcast S1x1 255#32))) (broadcast S1x1 0#32) (subi v29 (broadcast S1x1 126#32))))
    (broadcast S1x1 127#32)) (broadcast S1x1 23#32))

theorem inv_apply (v1 : FVec Ideal S1x1 .f32) : inv v1 one = Scale.byLog (mag (v1 one)) := by
  have h29 : shapeCast S1x1 (multiReductionI .add [1] S1 (reached v1) 0#32 reduces_S1x256_S1 rfl) shapeCasts_S1_S1x1 one =
      BitVec.ofNat 32 (Scale.count (mag (v1 one))) := by
    unfold shapeCast
    exact sum_reached v1 _
  rw [← Scale.byFields_eq_byLog _ (mag_nonneg _), ← h29]
  generalize hn : shapeCast S1x1 (multiReductionI .add [1] S1 (reached v1) 0#32 reduces_S1x256_S1 rfl) shapeCasts_S1_S1x1 = n
  show Ideal.ofBits .f32 ((1#32 - (if (BitVec.ofBool (shapeCast S1x1 (multiReductionI .add [1] S1 (reached v1) 0#32 reduces_S1x256_S1 rfl) shapeCasts_S1_S1x1 one == 0#32) |||
    BitVec.ofBool (shapeCast S1x1 (multiReductionI .add [1] S1 (reached v1) 0#32 reduces_S1x256_S1 rfl) shapeCasts_S1_S1x1 one == 255#32)) = 1#1 then 0#32
    else shapeCast S1x1 (multiReductionI .add [1] S1 (reached v1) 0#32 reduces_S1x256_S1 rfl) shapeCasts_S1_S1x1 one - 126#32) + 127#32) <<< 23) = _
  rw [hn]
  unfold Scale.byFields Scale.exponent
  by_cases h0 : n one = 0#32
  · simp [h0]
  · by_cases h1 : n one = 255#32
    · simp [h1]
    · rw [beq_eq_false_iff_ne.mpr h0, beq_eq_false_iff_ne.mpr h1, if_neg (by decide), if_neg (by simp [h0, h1])]

/-- The code of one element, from it and the scale. -/
def code (x s : EReal) : EReal := min (Ideal.ofBits .f32 0x43E00000#32) (max (Ideal.ofBits .f32 0xC3E00000#32) (x * Scale.byLog (mag s)))

theorem kernel_pay (v1 : FVec Ideal S1x1 .f32) (x : Vec Ideal S384x7168 .bf16) (i : S384x7168.Idx) : k0_pay3 v1 x i = code (x i) (v1 one) := by
  have hx : shapeCast S384x7168 x shapeCasts_S384x7168_S384x7168 i = x i := shapeCast_apply x _ i i rfl
  have hb : broadcastTo S384x7168 (inv v1) broadcasts_S1x1_S384x7168 i = inv v1 one :=
    broadcastTo_apply (inv v1) broadcasts_S1x1_S384x7168 i one (fun a => by
      match a with
      | ⟨0, _⟩ => rfl
      | ⟨1, _⟩ => rfl)
  show min (Ideal.ofBits .f32 0x43E00000#32) (max (Ideal.ofBits .f32 0xC3E00000#32)
    (shapeCast S384x7168 x shapeCasts_S384x7168_S384x7168 i * broadcastTo S384x7168 (inv v1) broadcasts_S1x1_S384x7168 i)) = _
  rw [hx, hb, inv_apply]
  rfl

theorem ofBits_one : Ideal.ofBits .f32 0x3F800000#32 = 1 := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_least : Ideal.ofBits .f32 0x00800000#32 = (((2 : ℝ) ^ (-126 : ℤ) : ℝ) : EReal) := by
  simp [Ideal.ofBits, Ideal.ieee, -EReal.coe_mul]; norm_num
theorem ofBits_top : Ideal.ofBits .f32 0x7F800000#32 = ⊤ := by
  simp [Ideal.ofBits, Ideal.ieee, -EReal.coe_mul]
theorem ofBits_bound : Ideal.ofBits .f32 0xC2FC0000#32 = ((-126 : ℝ) : EReal) := by
  simp [Ideal.ofBits, Ideal.ieee, -EReal.coe_mul]; norm_num

/-- The one position of a one-element array. -/
def only : S1.Idx := fun a => match a with | ⟨0, _⟩ => (0 : Fin 1)

theorem eq_only (j : S1.Idx) : j = only := by
  funext a
  match a with
  | ⟨0, _⟩ => exact Subsingleton.elim (α := Fin 1) _ _

/-- The reference's power of two, at a magnitude. -/
def refInv (a : EReal) : EReal :=
  Scalar.select (Ideal.cmp .olt (Ideal.ofBits .f32 0x3F800000#32 - Scalar.select (Ideal.cmp .olt a (Ideal.ofBits .f32 0x00800000#32) ||| Ideal.cmp .oeq a (Ideal.ofBits .f32 0x7F800000#32))
    (Ideal.ofBits .f32 0x00000000#32) (Ideal.liftRound Int.floor (Ideal.div (Ideal.log a) (Ideal.log (Ideal.ofBits .f32 0x40000000#32))) + Ideal.ofBits .f32 0x3F800000#32))
    (Ideal.ofBits .f32 0xC2FC0000#32)) (Ideal.ofBits .f32 0x00000000#32)
    (Ideal.exp2 (Ideal.ofBits .f32 0x3F800000#32 - Scalar.select (Ideal.cmp .olt a (Ideal.ofBits .f32 0x00800000#32) ||| Ideal.cmp .oeq a (Ideal.ofBits .f32 0x7F800000#32))
    (Ideal.ofBits .f32 0x00000000#32) (Ideal.liftRound Int.floor (Ideal.div (Ideal.log a) (Ideal.log (Ideal.ofBits .f32 0x40000000#32))) + Ideal.ofBits .f32 0x3F800000#32)))

theorem select_lt {α : Type} (a b : EReal) (x y : α) : Scalar.select (Ideal.cmp .olt a b) x y = if a < b then x else y := by
  by_cases h : a < b <;> simp [Scalar.select, Ideal.cmp, h]

theorem select_lt_or {α : Type} (a b c : EReal) (x y : α) :
    Scalar.select (Ideal.cmp .olt a b ||| Ideal.cmp .oeq a c) x y = if a < b ∨ a = c then x else y := by
  show (if BitVec.ofBool (decide (a < b)) ||| BitVec.ofBool (decide (a = c)) = 1#1 then x else y) = _
  rcases Bool.eq_false_or_eq_true (decide (a < b)) with h | h <;> rcases Bool.eq_false_or_eq_true (decide (a = c)) with h' | h' <;> rw [h, h'] <;>
    simp only [decide_eq_true_eq, decide_eq_false_iff_not] at h h'
  · rw [if_pos (by decide), if_pos (.inl h)]
  · rw [if_pos (by decide), if_pos (.inl h)]
  · rw [if_pos (by decide), if_pos (.inr h')]
  · rw [if_neg (by decide), if_neg (by rintro (h'' | h''); exacts [h h'', h' h''])]

theorem refInv_eq (a : EReal) : refInv a = Scale.byLog a := by
  unfold refInv Scale.byLog
  rw [ofBits_one, ofBits_two, ofBits_least, ofBits_top, ofBits_bound, Ideal.ofBits_zero_f32]
  rw [select_lt, select_lt_or]

theorem reference_pay (a0 : Vec Ideal S1x384x7168 .bf16) (a1 : Vec Ideal S1 .f32) (i : S1x384x7168.Idx) :
    Cert.ReferenceIdeal.Gen.k0_pay2 a0 a1 i = code (a0 i) (a1 only) := by
  have h : (fun a => ⟨(![0] : Fin 1 → ℕ) a, Cert.ReferenceIdeal.Gen.inpos_S1_p0 a⟩ : S1.Idx) = only := eq_only _
  unfold code
  rw [← refInv_eq, ← h]
  rfl

/-- The position in `384 × 7168` of one in `1 × 384 × 7168`, and the same of `384 × 3584`. -/
def row (i : S1x384x7168.Idx) : S384x7168.Idx := fun a => match a with | ⟨0, _⟩ => (i 1 : Fin 384) | ⟨1, _⟩ => (i 2 : Fin 7168)
def rowY (i : S1x384x3584.Idx) : S384x3584.Idx := fun a => match a with | ⟨0, _⟩ => (i 1 : Fin 384) | ⟨1, _⟩ => (i 2 : Fin 3584)
/-- And back. -/
def unrow (i : S384x7168.Idx) : S1x384x7168.Idx := fun a => match a with | ⟨0, _⟩ => (0 : Fin 1) | ⟨1, _⟩ => (i 0 : Fin 384) | ⟨2, _⟩ => (i 1 : Fin 7168)

theorem unrow_row (i : S1x384x7168.Idx) : unrow (row i) = i := by
  funext a
  match a with
  | ⟨0, _⟩ => exact Subsingleton.elim (α := Fin 1) _ _
  | ⟨1, _⟩ => rfl
  | ⟨2, _⟩ => rfl

theorem row_major (i : S1x384x7168.Idx) : (S384x7168.rowMajor (row i)).val = (S1x384x7168.rowMajor i).val := by
  rw [Shape.rowMajor_val_two, Shape.rowMajor_val_three]
  have h0 : (i 0).val = 0 := by have h : (i 0).val < 1 := (i 0).isLt; omega
  show (i 1).val * 7168 + (i 2).val = ((i 0).val * 384 + (i 1).val) * 7168 + (i 2).val
  rw [h0]; omega

theorem rowY_major (i : S1x384x3584.Idx) : (S384x3584.rowMajor (rowY i)).val = (S1x384x3584.rowMajor i).val := by
  rw [Shape.rowMajor_val_two, Shape.rowMajor_val_three]
  have h0 : (i 0).val = 0 := by have h : (i 0).val < 1 := (i 0).isLt; omega
  show (i 1).val * 3584 + (i 2).val = ((i 0).val * 384 + (i 1).val) * 3584 + (i 2).val
  rw [h0]; omega

theorem scale_one (a1 : Vec Ideal S1 .f32) : k0_pay1 (scaleOf a1) one = a1 only := by
  show shapeCast S1x1 (shapeCast S1x1 a1 shapeCasts_S1_S1x1) shapeCasts_S1x1_S1x1 one = _
  unfold shapeCast
  exact congrArg a1 (eq_only _)

/-- The kernel's codes, by position. -/
theorem codesOf_apply (a0 : Vec Ideal S1x384x7168 .bf16) (a1 : Vec Ideal S1 .f32) (i : S384x7168.Idx) :
    codesOf a0 a1 i = code (a0 (unrow i)) (a1 only) := by
  unfold codesOf
  rw [kernel_pay, scale_one]
  congr 1
  refine shapeCast_apply a0 _ i (unrow i) ?_
  rw [← row_major (unrow i)]
  congr 2
  funext a
  match a with
  | ⟨0, _⟩ => rfl
  | ⟨1, _⟩ => rfl

/-- THE CODES: the same array. -/
theorem codes_eq (a0 : Vec Ideal S1x384x7168 .bf16) (a1 : Vec Ideal S1 .f32) :
    shapeCast S1x384x7168 (codesOf a0 a1) shapeCasts_S384x7168_S1x384x7168 = Cert.ReferenceIdeal.Gen.k0_pay2 a0 a1 := by
  funext i
  rw [reference_pay, shapeCast_apply (codesOf a0 a1) _ i (row i) (row_major i), codesOf_apply, unrow_row]

/-- THE SCALE: unchanged. -/
theorem scale_eq (a1 : Vec Ideal S1 .f32) : shapeCast S1 (k0_pay1 (scaleOf a1)) shapeCasts_S1x1_S1 = a1 := by
  funext j
  rw [eq_only j, ← scale_one a1]
  unfold shapeCast
  exact congrArg _ (eq_one _)

/-! ## `y` -/

/-- A position of each matrix by its coordinates. -/
def at2 (r : Fin 384) (k : Fin 7168) : S384x7168.Idx := fun a => match a with | ⟨0, _⟩ => r | ⟨1, _⟩ => k
def at3 (r : Fin 384) (k : Fin 7168) : S1x384x7168.Idx := fun a => match a with | ⟨0, _⟩ => (0 : Fin 1) | ⟨1, _⟩ => r | ⟨2, _⟩ => k
def atBlock (k : Fin 7168) (j : Fin 512) : S7168x512.Idx := fun a => match a with | ⟨0, _⟩ => k | ⟨1, _⟩ => j
def atW (k : Fin 7168) (j : Fin 3584) : S7168x3584.Idx := fun a => match a with | ⟨0, _⟩ => k | ⟨1, _⟩ => j
def atRow (j : Fin 512) : S1x512.Idx := fun a => match a with | ⟨0, _⟩ => (0 : Fin 1) | ⟨1, _⟩ => j
def atWide (j : Fin 3584) : Cert.ReferenceIdeal.S1x1x3584.Idx := fun a => match a with | ⟨0, _⟩ => (0 : Fin 1) | ⟨1, _⟩ => (0 : Fin 1) | ⟨2, _⟩ => j
def atWs (j : Fin 3584) : S3584.Idx := fun a => match a with | ⟨0, _⟩ => j

/-- The kernel's product of a block, at an element: a sum over the 7168 columns of the codes. -/
theorem dot_block (l : FVec Ideal S384x7168 .fp8e4m3) (r : FVec Ideal S7168x512 .fp8e4m3) (j : S384x512.Idx) :
    matmul dot_S384x7168_S7168x512_S384x512_1_0_0_1_n_n none l r (constant S384x512 .f32 0x00000000#32) j
      = ∑ k : Fin 7168, (l (at2 (j 0) k) : EReal) * r (atBlock k (j 1)) := by
  refine (Ideal.matmul_constant_zero_apply _ none l r j).trans ?_
  refine Fintype.sum_equiv (ValueIdx.contrEquiv1 dot_S384x7168_S7168x512_S384x512_1_0_0_1_n_n 7168 rfl rfl) _ _ fun k => ?_
  refine congr (congrArg _ (congrArg l (funext fun a => ?_))) (congrArg r (funext fun a => ?_))
  · match a with
    | ⟨0, _⟩ => rfl
    | ⟨1, _⟩ => rfl
  · match a with
    | ⟨0, _⟩ => rfl
    | ⟨1, _⟩ => rfl

/-- The reference's product, at an element. -/
theorem dot_whole (l : FVec Ideal S1x384x7168 .fp8e4m3) (r : FVec Ideal S7168x3584 .fp8e4m3) (j : S1x384x3584.Idx) :
    matmul Cert.ReferenceIdeal.dot_S1x384x7168_S7168x3584_S1x384x3584_2_0_01_1_n_n none l r (constant S1x384x3584 .f32 0x00000000#32) j
      = ∑ k : Fin 7168, (l (at3 (j 1) k) : EReal) * r (atW k (j 2)) := by
  refine (Ideal.matmul_constant_zero_apply _ none l r j).trans ?_
  refine Fintype.sum_equiv (ValueIdx.contrEquiv1 Cert.ReferenceIdeal.dot_S1x384x7168_S7168x3584_S1x384x3584_2_0_01_1_n_n 7168 rfl rfl) _ _ fun k => ?_
  refine congr (congrArg _ (congrArg l (funext fun a => ?_))) (congrArg r (funext fun a => ?_))
  · match a with
    | ⟨0, _⟩ => exact Subsingleton.elim (α := Fin 1) _ _
    | ⟨1, _⟩ => rfl
    | ⟨2, _⟩ => rfl
  · match a with
    | ⟨0, _⟩ => rfl
    | ⟨1, _⟩ => rfl

/-- One element of `y`: the codes' row times the weights' column, times the two scales. -/
def yAt (a0 : Vec Ideal S1x384x7168 .bf16) (a1 : Vec Ideal S1 .f32) (a2 : Vec Ideal S7168x3584 .fp8e4m3) (a3 : Vec Ideal S3584 .f32)
    (r : Fin 384) (j : Fin 3584) : EReal :=
  (∑ k : Fin 7168, code (a0 (at3 r k)) (a1 only) * (a2 (atW k j) : EReal)) * ((a1 only : EReal) * a3 (atWs j))

theorem kernel_y (a0 : Vec Ideal S1x384x7168 .bf16) (a1 : Vec Ideal S1 .f32) (a2 : Vec Ideal S7168x3584 .fp8e4m3) (a3 : Vec Ideal S3584 .f32)
    (i : S384x3584.Idx) : yOf a0 a1 a2 a3 i = yAt a0 a1 a2 a3 (i 0) (i 1) := by
  have hcol : col (blockOf i) (within i 1) = i 1 := Fin.ext (by
    show (i 1).val / 512 * 512 + (i 1).val % 512 = (i 1).val
    omega)
  have hb : broadcastTo S384x512 (mulf (broadcastTo S1x512 (k0_pay1 (scaleOf a1)) broadcasts_S1x1_S1x512)
      (shapeCast S1x512 (wsBlock a3 (blockOf i)) shapeCasts_S1x512_S1x512)) broadcasts_S1x512_S384x512 (within i)
      = (a1 only : EReal) * a3 (atWs (i 1)) := by
    refine (broadcastTo_apply _ _ (within i) (atRow (within i 1)) (fun a => by
      match a with
      | ⟨0, _⟩ => rfl
      | ⟨1, _⟩ => rfl)).trans ?_
    show (broadcastTo S1x512 (k0_pay1 (scaleOf a1)) broadcasts_S1x1_S1x512 (atRow (within i 1)) : EReal) *
      shapeCast S1x512 (wsBlock a3 (blockOf i)) shapeCasts_S1x512_S1x512 (atRow (within i 1)) = _
    refine congrArg₂ (fun x y : EReal => x * y) ?_ ?_
    · refine (broadcastTo_apply _ _ _ one (fun a => by
        match a with
        | ⟨0, _⟩ => rfl
        | ⟨1, _⟩ => rfl)).trans (scale_one a1)
    · refine (shapeCast_apply _ _ _ _ rfl).trans ?_
      refine congrArg a3 (funext fun a => ?_)
      match a with
      | ⟨0, _⟩ => exact hcol
  have hd : matmul (F := Ideal) (φ₁ := .fp8e4m3) (φ₂ := .fp8e4m3) dot_S384x7168_S7168x512_S384x512_1_0_0_1_n_n none (shapeCast S384x7168 (codesOf a0 a1) shapeCasts_S384x7168_S384x7168)
      (wBlock a2 (blockOf i)) (constant S384x512 .f32 0x00000000#32) (within i)
      = ∑ k : Fin 7168, code (a0 (at3 (i 0) k)) (a1 only) * (a2 (atW k (i 1)) : EReal) := by
    rw [dot_block]
    refine Finset.sum_congr rfl fun k _ => ?_
    refine congrArg₂ (fun x y : EReal => x * y) ?_ ?_
    · refine (shapeCast_apply _ _ _ _ rfl).trans ((codesOf_apply a0 a1 _).trans ?_)
      rfl
    · refine congrArg a2 (funext fun a => ?_)
      match a with
      | ⟨0, _⟩ => rfl
      | ⟨1, _⟩ => exact hcol
  unfold yAt
  rw [← hb, ← hd]
  rfl

theorem reference_y (a0 : Vec Ideal S1x384x7168 .bf16) (a1 : Vec Ideal S1 .f32) (a2 : Vec Ideal S7168x3584 .fp8e4m3) (a3 : Vec Ideal S3584 .f32)
    (i : S1x384x3584.Idx) : Cert.ReferenceIdeal.Value.G4 a0 a1 a2 a3 i = yAt a0 a1 a2 a3 (i 1) (i 2) := by
  have hb : broadcastTo S1x384x3584 (shapeCast Cert.ReferenceIdeal.S1x1x3584 (Cert.ReferenceIdeal.Gen.k0_pay4 a1 a3) Cert.ReferenceIdeal.Gen.shapeCasts_S3584_S1x1x3584)
      Cert.ReferenceIdeal.Gen.broadcasts_S1x1x3584_S1x384x3584 i = (a1 only : EReal) * a3 (atWs (i 2)) := by
    refine (broadcastTo_apply _ _ i (atWide (i 2)) (fun a => by
      match a with
      | ⟨0, _⟩ => rfl
      | ⟨1, _⟩ => rfl
      | ⟨2, _⟩ => rfl)).trans ?_
    refine (shapeCast_apply _ _ _ (atWs (i 2)) (by
      rw [Shape.rowMajor_val_one, Shape.rowMajor_val_three]
      show (i 2).val = (0 * 1 + 0) * 3584 + (i 2).val
      omega)).trans ?_
    show (a1 _ : EReal) * a3 _ = _
    rw [eq_only (fun a => ⟨(![0] : Fin 1 → ℕ) a, Cert.ReferenceIdeal.Gen.inpos_S1_p0 a⟩)]
  have hd : Cert.ReferenceIdeal.Gen.k0_pay3 a0 a1 a2 i = ∑ k : Fin 7168, code (a0 (at3 (i 1) k)) (a1 only) * (a2 (atW k (i 2)) : EReal) := by
    refine (dot_whole (Cert.ReferenceIdeal.Gen.k0_pay2 a0 a1) a2 i).trans ?_
    refine Finset.sum_congr rfl fun k _ => ?_
    rw [reference_pay]
  unfold yAt
  rw [← hb, ← hd]
  rfl

/-- `y`: the same array. -/
theorem y_eq (a0 : Vec Ideal S1x384x7168 .bf16) (a1 : Vec Ideal S1 .f32) (a2 : Vec Ideal S7168x3584 .fp8e4m3) (a3 : Vec Ideal S3584 .f32) :
    shapeCast S1x384x3584 (yOf a0 a1 a2 a3) shapeCasts_S384x3584_S1x384x3584 = Cert.ReferenceIdeal.Value.G4 a0 a1 a2 a3 := by
  funext i
  rw [reference_y, shapeCast_apply (yOf a0 a1 a2 a3) _ i (rowY i) (rowY_major i), kernel_y]
  rfl

end Cert.Equation

end
-- ==== Proof.lean ====
module
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Frame
public import proofs.«01_k».proof.Proof.Gen.ReferenceIdeal.Value
public import proofs.«01_k».proof.Proof.PrintedFrame
public import proofs.«01_k».proof.Proof.KernelValue
public import proofs.«01_k».proof.Proof.Equation
public import Idealize.ShloMosaic.Adequacy
public import Idealize.ShloMosaic.Init

@[expose] public section

noncomputable section

namespace Cert.Proof

open Idealize.ShloMosaic Idealize.SL.Sem

/-- The kernel and the reference, read over the extended reals and started on the same arguments, leave the same three results. -/
theorem algebraic : Cert.algebraic_KernelIdeal_ReferenceIdeal := by
  intro m g m' g' _ hagree
  refine ⟨_, _, _, Cert.KernelIdeal.Run.run_values m g, (θ_run _ _ _).mono (fun r h c => ?_) (Cert.ReferenceIdeal.Value.run m' g')⟩
  obtain ⟨h4, h5, h6, hargs⟩ := h c
  obtain ⟨e0, e1, e2, e3⟩ := hagree c
  refine ⟨h4.trans ?_, h5.trans ?_, h6.trans ?_, hargs⟩
  · rw [e0, e1, e2, e3]; exact (Cert.Equation.y_eq _ _ _ _).symm
  · rw [e0, e1, e2, e3]; exact (Cert.Equation.codes_eq _ _).symm
  · rw [e0, e1, e2, e3]; exact (Cert.Equation.scale_eq _).symm

/-- The certificate: both kernel programs and the reference run to completion and leave their arguments as they were, the kernel read over
    the extended reals is the kernel as printed, and the kernel and the reference leave the same results. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, algebraic⟩

end Cert.Proof

end
